-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x768 : Shape := ⟨3, ![2, 2048, 768]⟩
abbrev S768x768 : Shape := ⟨2, ![768, 768]⟩
abbrev S768 : Shape := ⟨1, ![768]⟩
abbrev S24x2048 : Shape := ⟨2, ![24, 2048]⟩
abbrev S2048x3 : Shape := ⟨2, ![2048, 3]⟩
abbrev S4096x768 : Shape := ⟨2, ![4096, 768]⟩
abbrev S1x768 : Shape := ⟨2, ![1, 768]⟩
abbrev S24x2048x64 : Shape := ⟨3, ![24, 2048, 64]⟩
abbrev S24x1x2048 : Shape := ⟨3, ![24, 1, 2048]⟩
abbrev S512x768 : Shape := ⟨2, ![512, 768]⟩
abbrev S3x2048x64 : Shape := ⟨3, ![3, 2048, 64]⟩
abbrev S3x1x2048 : Shape := ⟨3, ![3, 1, 2048]⟩
abbrev S171x64 : Shape := ⟨2, ![171, 64]⟩
abbrev S170x64 : Shape := ⟨2, ![170, 64]⟩
abbrev S2048x64 : Shape := ⟨2, ![2048, 64]⟩
abbrev S1x2048x64 : Shape := ⟨3, ![1, 2048, 64]⟩
abbrev S2048 : Shape := ⟨1, ![2048]⟩
abbrev S2048x1 : Shape := ⟨2, ![2048, 1]⟩
abbrev S1x2048 : Shape := ⟨2, ![1, 2048]⟩
abbrev S512x64 : Shape := ⟨2, ![512, 64]⟩
abbrev S512x2048 : Shape := ⟨2, ![512, 2048]⟩
abbrev S1x1x2048 : Shape := ⟨3, ![1, 1, 2048]⟩
abbrev S24x64 : Shape := ⟨2, ![24, 64]⟩
abbrev S24 : Shape := ⟨1, ![24]⟩
abbrev S24x1 : Shape := ⟨2, ![24, 1]⟩
abbrev S64 : Shape := ⟨1, ![64]⟩
abbrev S1x64 : Shape := ⟨2, ![1, 64]⟩
abbrev S64x1 : Shape := ⟨2, ![64, 1]⟩
abbrev S64x2048 : Shape := ⟨2, ![64, 2048]⟩
abbrev S64x64 : Shape := ⟨2, ![64, 64]⟩

abbrev nBuf : Space → Nat
  | .hbm => 22
  | .vmem => 30
  | .smem => 0
  | _ => 0

abbrev bufTy : (tb : Table) → Fin (tcTables nBuf tb) → BufTy
  | .hbm, ⟨0, _⟩ => ⟨S2x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S24x2048, .i32⟩
  | .hbm, ⟨10, _⟩ => ⟨S2048x3, .i32⟩
  | .hbm, ⟨11, _⟩ => ⟨S4096x768, .f32⟩
  | .hbm, ⟨12, _⟩ => ⟨S1x768, .f32⟩
  | .hbm, ⟨13, _⟩ => ⟨S1x768, .f32⟩
  | .hbm, ⟨14, _⟩ => ⟨S1x768, .f32⟩
  | .hbm, ⟨15, _⟩ => ⟨S1x768, .f32⟩
  | .hbm, ⟨16, _⟩ => ⟨S24x2048x64, .bf16⟩
  | .hbm, ⟨17, _⟩ => ⟨S24x2048x64, .bf16⟩
  | .hbm, ⟨18, _⟩ => ⟨S24x2048x64, .bf16⟩
  | .hbm, ⟨19, _⟩ => ⟨S24x1x2048, .f32⟩
  | .hbm, ⟨20, _⟩ => ⟨S4096x768, .f32⟩
  | .hbm, ⟨21, _⟩ => ⟨S2x2048x768, .f32⟩
  | .local _ .vmem, ⟨0, _⟩ => ⟨S512x768, .f32⟩
  | .local _ .vmem, ⟨1, _⟩ => ⟨S512x768, .f32⟩
  | .local _ .vmem, ⟨2, _⟩ => ⟨S768x768, .f32⟩
  | .local _ .vmem, ⟨3, _⟩ => ⟨S768x768, .f32⟩
  | .local _ .vmem, ⟨4, _⟩ => ⟨S768x768, .f32⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S3x2048x64, .bf16⟩
  | .local _ .vmem, ⟨9, _⟩ => ⟨S3x2048x64, .bf16⟩
  | .local _ .vmem, ⟨10, _⟩ => ⟨S3x2048x64, .bf16⟩
  | .local _ .vmem, ⟨11, _⟩ => ⟨S3x2048x64, .bf16⟩
  | .local _ .vmem, ⟨12, _⟩ => ⟨S3x2048x64, .bf16⟩
  | .local _ .vmem, ⟨13, _⟩ => ⟨S3x2048x64, .bf16⟩
  | .local _ .vmem, ⟨14, _⟩ => ⟨S3x1x2048, .f32⟩
  | .local _ .vmem, ⟨15, _⟩ => ⟨S3x1x2048, .f32⟩
  | .local _ .vmem, ⟨16, _⟩ => ⟨S24x2048, .i32⟩
  | .local _ .vmem, ⟨17, _⟩ => ⟨S2048x3, .i32⟩
  | .local _ .vmem, ⟨18, _⟩ => ⟨S24x1x2048, .f32⟩
  | .local _ .vmem, ⟨19, _⟩ => ⟨S3x2048x64, .bf16⟩
  | .local _ .vmem, ⟨20, _⟩ => ⟨S3x2048x64, .bf16⟩
  | .local _ .vmem, ⟨21, _⟩ => ⟨S3x2048x64, .bf16⟩
  | .local _ .vmem, ⟨22, _⟩ => ⟨S3x2048x64, .bf16⟩
  | .local _ .vmem, ⟨23, _⟩ => ⟨S3x2048x64, .bf16⟩
  | .local _ .vmem, ⟨24, _⟩ => ⟨S3x2048x64, .bf16⟩
  | .local _ .vmem, ⟨25, _⟩ => ⟨S768x768, .f32⟩
  | .local _ .vmem, ⟨26, _⟩ => ⟨S1x768, .f32⟩
  | .local _ .vmem, ⟨27, _⟩ => ⟨S512x768, .f32⟩
  | .local _ .vmem, ⟨28, _⟩ => ⟨S512x768, .f32⟩
  | .local _ .vmem, ⟨29, _⟩ => ⟨S24x64, .i32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg8_1 : Ref sig .tc := ⟨.vmem, 28, rfl⟩
abbrev cc1_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem7_0 : DmaSem sig := 26
abbrev cc1_sem8_0 : DmaSem sig := 27
abbrev cc1_sem8_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x2048x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x2048x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x2048x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_1 : BitVec 32 := 0#32
  let v3 : BitVec 1 := Scalar.cmpi .ne v2 c0_i32_1
  v3

@[reducible] def k1_t1_loop : Scf.Loop 32 :=
  let c0_i32_78 : BitVec 32 := 0#32
  let c64_i32 : BitVec 32 := 64#32
  let v213 : BitVec 32 := Scalar.addi c0_i32_78 c64_i32
  let c1_i32_79 : BitVec 32 := 1#32
  ⟨c0_i32_78, v213, c1_i32_79⟩
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S24x2048 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x3 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S24x1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S3x2048x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x2048x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3x2048x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S768x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S2x2048x768 : Shape := ⟨3, ![2, 2048, 768]⟩
abbrev S768x768 : Shape := ⟨2, ![768, 768]⟩
abbrev S768 : Shape := ⟨1, ![768]⟩
abbrev S1x1x768 : Shape := ⟨3, ![1, 1, 768]⟩
abbrev S2x2048x12x64 : Shape := ⟨4, ![2, 2048, 12, 64]⟩
abbrev S24x2048x64 : Shape := ⟨3, ![24, 2048, 64]⟩
abbrev S_ : Shape := ⟨0, ![]⟩
abbrev S24x2048 : Shape := ⟨2, ![24, 2048]⟩
abbrev S24x2048x1 : Shape := ⟨3, ![24, 2048, 1]⟩
abbrev S24x2048x2048 : Shape := ⟨3, ![24, 2048, 2048]⟩
abbrev S24x64 : Shape := ⟨2, ![24, 64]⟩
abbrev S24x64x1 : Shape := ⟨3, ![24, 64, 1]⟩
abbrev S1 : Shape := ⟨1, ![1]⟩
abbrev S1x1x1 : Shape := ⟨3, ![1, 1, 1]⟩
abbrev S24x64x64 : Shape := ⟨3, ![24, 64, 64]⟩
abbrev S24x64x2048 : Shape := ⟨3, ![24, 64, 2048]⟩
abbrev S24 : Shape := ⟨1, ![24]⟩
abbrev S24x1 : Shape := ⟨2, ![24, 1]⟩
abbrev S24x64x2 : Shape := ⟨3, ![24, 64, 2]⟩

abbrev nBuf : Space → Nat
  | .hbm => 126
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S2x2048x768, .f32⟩
  | .hbm, ⟨10, _⟩ => ⟨S1x1x768, .f32⟩
  | .hbm, ⟨11, _⟩ => ⟨S2x2048x768, .f32⟩
  | .hbm, ⟨12, _⟩ => ⟨S2x2048x768, .f32⟩
  | .hbm, ⟨13, _⟩ => ⟨S2x2048x768, .f32⟩
  | .hbm, ⟨14, _⟩ => ⟨S1x1x768, .f32⟩
  | .hbm, ⟨15, _⟩ => ⟨S2x2048x768, .f32⟩
  | .hbm, ⟨16, _⟩ => ⟨S2x2048x768, .f32⟩
  | .hbm, ⟨17, _⟩ => ⟨S2x2048x768, .f32⟩
  | .hbm, ⟨18, _⟩ => ⟨S1x1x768, .f32⟩
  | .hbm, ⟨19, _⟩ => ⟨S2x2048x768, .f32⟩
  | .hbm, ⟨20, _⟩ => ⟨S2x2048x768, .f32⟩
  | .hbm, ⟨21, _⟩ => ⟨S2x2048x12x64, .f32⟩
  | .hbm, ⟨22, _⟩ => ⟨S24x2048x64, .f32⟩
  | .hbm, ⟨23, _⟩ => ⟨S2x2048x12x64, .f32⟩
  | .hbm, ⟨24, _⟩ => ⟨S24x2048x64, .f32⟩
  | .hbm, ⟨25, _⟩ => ⟨S2x2048x12x64, .f32⟩
  | .hbm, ⟨26, _⟩ => ⟨S24x2048x64, .f32⟩
  | .hbm, ⟨27, _⟩ => ⟨S24x2048x64, .f32⟩
  | .hbm, ⟨28, _⟩ => ⟨S_, .f32⟩
  | .hbm, ⟨29, _⟩ => ⟨S24x2048, .f32⟩
  | .hbm, ⟨30, _⟩ => ⟨S24x2048x1, .f32⟩
  | .hbm, ⟨31, _⟩ => ⟨S_, .f32⟩
  | .hbm, ⟨32, _⟩ => ⟨S24x2048x1, .f32⟩
  | .hbm, ⟨33, _⟩ => ⟨S24x2048x1, .f32⟩
  | .hbm, ⟨34, _⟩ => ⟨S24x2048x1, .f32⟩
  | .hbm, ⟨35, _⟩ => ⟨S24x2048x64, .f32⟩
  | .hbm, ⟨36, _⟩ => ⟨S24x2048x64, .f32⟩
  | .hbm, ⟨37, _⟩ => ⟨S24x2048x64, .f32⟩
  | .hbm, ⟨38, _⟩ => ⟨S_, .f32⟩
  | .hbm, ⟨39, _⟩ => ⟨S24x2048, .f32⟩
  | .hbm, ⟨40, _⟩ => ⟨S24x2048x1, .f32⟩
  | .hbm, ⟨41, _⟩ => ⟨S_, .f32⟩
  | .hbm, ⟨42, _⟩ => ⟨S24x2048x1, .f32⟩
  | .hbm, ⟨43, _⟩ => ⟨S24x2048x1, .f32⟩
  | .hbm, ⟨44, _⟩ => ⟨S24x2048x1, .f32⟩
  | .hbm, ⟨45, _⟩ => ⟨S24x2048x64, .f32⟩
  | .hbm, ⟨46, _⟩ => ⟨S24x2048x64, .f32⟩
  | .hbm, ⟨47, _⟩ => ⟨S24x2048x2048, .f32⟩
  | .hbm, ⟨48, _⟩ => ⟨S_, .f32⟩
  | .hbm, ⟨49, _⟩ => ⟨S24x2048, .f32⟩
  | .hbm, ⟨50, _⟩ => ⟨S24x2048, .i32⟩
  | .hbm, ⟨51, _⟩ => ⟨S24x2048, .f32⟩
  | .hbm, ⟨52, _⟩ => ⟨S24x2048, .i32⟩
  | .hbm, ⟨53, _⟩ => ⟨S24x2048, .i32⟩
  | .hbm, ⟨54, _⟩ => ⟨S24x64, .i32⟩
  | .hbm, ⟨55, _⟩ => ⟨S24x64x1, .i32⟩
  | .hbm, ⟨56, _⟩ => ⟨S_, .i32⟩
  | .hbm, ⟨57, _⟩ => ⟨S24x64x1, .i32⟩
  | .hbm, ⟨58, _⟩ => ⟨S24x64x1, .i1⟩
  | .hbm, ⟨59, _⟩ => ⟨S_, .i32⟩
  | .hbm, ⟨60, _⟩ => ⟨S24x64x1, .i32⟩
  | .hbm, ⟨61, _⟩ => ⟨S24x64x1, .i32⟩
  | .hbm, ⟨62, _⟩ => ⟨S24x64x1, .i32⟩
  | .hbm, ⟨63, _⟩ => ⟨S1, .i32⟩
  | .hbm, ⟨64, _⟩ => ⟨S_, .i32⟩
  | .hbm, ⟨65, _⟩ => ⟨S24x64x1, .i32⟩
  | .hbm, ⟨66, _⟩ => ⟨S24x64x1, .i1⟩
  | .hbm, ⟨67, _⟩ => ⟨S1x1x1, .i32⟩
  | .hbm, ⟨68, _⟩ => ⟨S24x64x1, .i32⟩
  | .hbm, ⟨69, _⟩ => ⟨S24x64x1, .i1⟩
  | .hbm, ⟨70, _⟩ => ⟨S24x64x1, .i1⟩
  | .hbm, ⟨71, _⟩ => ⟨S_, .i1⟩
  | .hbm, ⟨72, _⟩ => ⟨S24x64, .i1⟩
  | .hbm, ⟨73, _⟩ => ⟨S24x64x64, .f32⟩
  | .hbm, ⟨74, _⟩ => ⟨S24x64x64, .i1⟩
  | .hbm, ⟨75, _⟩ => ⟨S_, .f32⟩
  | .hbm, ⟨76, _⟩ => ⟨S24x64x64, .f32⟩
  | .hbm, ⟨77, _⟩ => ⟨S24x64x64, .f32⟩
  | .hbm, ⟨78, _⟩ => ⟨S24x64x2048, .f32⟩
  | .hbm, ⟨79, _⟩ => ⟨S_, .f32⟩
  | .hbm, ⟨80, _⟩ => ⟨S_, .f32⟩
  | .hbm, ⟨81, _⟩ => ⟨S24x64x2048, .f32⟩
  | .hbm, ⟨82, _⟩ => ⟨S24x64x2048, .f32⟩
  | .hbm, ⟨83, _⟩ => ⟨S_, .f32⟩
  | .hbm, ⟨84, _⟩ => ⟨S24x64, .f32⟩
  | .hbm, ⟨85, _⟩ => ⟨S_, .f32⟩
  | .hbm, ⟨86, _⟩ => ⟨S24x64, .f32⟩
  | .hbm, ⟨87, _⟩ => ⟨S24x64, .f32⟩
  | .hbm, ⟨88, _⟩ => ⟨S24x64x1, .f32⟩
  | .hbm, ⟨89, _⟩ => ⟨S24x64x2048, .f32⟩
  | .hbm, ⟨90, _⟩ => ⟨S24x64x2048, .f32⟩
  | .hbm, ⟨91, _⟩ => ⟨S24x64x2048, .f32⟩
  | .hbm, ⟨92, _⟩ => ⟨S_, .f32⟩
  | .hbm, ⟨93, _⟩ => ⟨S24x64, .f32⟩
  | .hbm, ⟨94, _⟩ => ⟨S24x64x1, .f32⟩
  | .hbm, ⟨95, _⟩ => ⟨S24x64x2048, .f32⟩
  | .hbm, ⟨96, _⟩ => ⟨S24x64x2048, .f32⟩
  | .hbm, ⟨97, _⟩ => ⟨S24x64x64, .f32⟩
  | .hbm, ⟨98, _⟩ => ⟨S24, .i32⟩
  | .hbm, ⟨99, _⟩ => ⟨S24x1, .i32⟩
  | .hbm, ⟨100, _⟩ => ⟨S_, .f32⟩
  | .hbm, ⟨101, _⟩ => ⟨S24x2048x64, .f32⟩
  | .hbm, ⟨102, _⟩ => ⟨S_, .i32⟩
  | .hbm, ⟨103, _⟩ => ⟨S24x1, .i32⟩
  | .hbm, ⟨104, _⟩ => ⟨S24x1, .i1⟩
  | .hbm, ⟨105, _⟩ => ⟨S_, .i32⟩
  | .hbm, ⟨106, _⟩ => ⟨S24x1, .i32⟩
  | .hbm, ⟨107, _⟩ => ⟨S24x1, .i32⟩
  | .hbm, ⟨108, _⟩ => ⟨S24x1, .i32⟩
  | .hbm, ⟨109, _⟩ => ⟨S_, .i32⟩
  | .hbm, ⟨110, _⟩ => ⟨S24x64, .i32⟩
  | .hbm, ⟨111, _⟩ => ⟨S24x64, .i1⟩
  | .hbm, ⟨112, _⟩ => ⟨S_, .i32⟩
  | .hbm, ⟨113, _⟩ => ⟨S24x64, .i32⟩
  | .hbm, ⟨114, _⟩ => ⟨S24x64, .i32⟩
  | .hbm, ⟨115, _⟩ => ⟨S24x64, .i32⟩
  | .hbm, ⟨116, _⟩ => ⟨S24x64, .i32⟩
  | .hbm, ⟨117, _⟩ => ⟨S24x64x1, .i32⟩
  | .hbm, ⟨118, _⟩ => ⟨S24x64x1, .i32⟩
  | .hbm, ⟨119, _⟩ => ⟨S24x64x2, .i32⟩
  | .hbm, ⟨120, _⟩ => ⟨S24x2048x64, .f32⟩
  | .hbm, ⟨121, _⟩ => ⟨S2x2048x768, .f32⟩
  | .hbm, ⟨122, _⟩ => ⟨S2x2048x768, .f32⟩
  | .hbm, ⟨123, _⟩ => ⟨S1x1x768, .f32⟩
  | .hbm, ⟨124, _⟩ => ⟨S2x2048x768, .f32⟩
  | .hbm, ⟨125, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_call0_v0 : Ref sig .tc := ⟨.hbm, 50, rfl⟩
abbrev main_call0_v1_0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_c_1 : Ref sig .tc := ⟨.hbm, 63, rfl⟩
abbrev main_call1_c_2 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_c_3 : Ref sig .tc := ⟨.hbm, 71, rfl⟩
abbrev main_call1_v11 : Ref sig .tc := ⟨.hbm, 72, rfl⟩
abbrev main_call1_v12 : Ref sig .tc := ⟨.hbm, 73, rfl⟩
abbrev main_call1_v13 : Ref sig .tc := ⟨.hbm, 74, rfl⟩
abbrev main_call1_cst : Ref sig .tc := ⟨.hbm, 75, rfl⟩
abbrev main_call1_v14 : Ref sig .tc := ⟨.hbm, 76, rfl⟩
abbrev main_v40 : Ref sig .tc := ⟨.hbm, 77, rfl⟩
abbrev main_v41 : Ref sig .tc := ⟨.hbm, 78, rfl⟩
abbrev main_cst_4 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_5 : Ref sig .tc := ⟨.hbm, 83, rfl⟩
abbrev main_v45 : Ref sig .tc := ⟨.hbm, 84, rfl⟩
abbrev main_cst_6 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_7 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_8 : Ref sig .tc := ⟨.hbm, 100, rfl⟩
abbrev main_v59 : Ref sig .tc := ⟨.hbm, 101, rfl⟩
abbrev main_c : Ref sig .tc := ⟨.hbm, 102, rfl⟩
abbrev main_v60 : Ref sig .tc := ⟨.hbm, 103, rfl⟩
abbrev main_v61 : Ref sig .tc := ⟨.hbm, 104, rfl⟩
abbrev main_c_9 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_c_10 : Ref sig .tc := ⟨.hbm, 109, rfl⟩
abbrev main_v65 : Ref sig .tc := ⟨.hbm, 110, rfl⟩
abbrev main_v66 : Ref sig .tc := ⟨.hbm, 111, rfl⟩
abbrev main_c_11 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩

abbrev nD : Nat := 1
abbrev τ : Topo := Topo.v7x

variable {F : FTy → Type} [FloatOps F]
-- ==== Proof.KernelIdealBody.lean ====
/- The values the two kernel bodies compute, written as functions of the blocks they load: the first body's projections, the slices
   it stacks, their norms and the largest score per query; the second body's chosen queries, the attention of one head and the block of the result. -/
module

public import proofs.«01_k».proof.Proof.Gen.KernelIdeal.Skeleton
public import Idealize.ShloMosaic.Lib.Pipeline.FrameBody
public import Idealize.ShloMosaic.Lib.Ring

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The first body -/

/-- The block of rows `x` times the weights `w`, plus the bias row `b`. -/
def lin (x : Vec F S512x768 .f32) (w : Vec F S768x768 .f32) (b : Vec F S1x768 .f32) : FVec F S512x768 .f32 := k0_pay3 x w b

/-- Slice 0 of a block: for each of the twelve column groups the rows of the block that belong to it, stacked. -/
def stk0 (A : FVec F S512x768 .f32) : FVec F S2048x64 .f32 :=
  concatenate S2048x64 0 [⟨S171x64, extractStridedSlice S171x64 ![0, 0] A slices_S512x768_o0_0_S171x64⟩, ⟨S171x64, extractStridedSlice S171x64 ![0, 64] A slices_S512x768_o0_64_S171x64⟩, ⟨S171x64, extractStridedSlice S171x64 ![0, 128] A slices_S512x768_o0_128_S171x64⟩, ⟨S171x64, extractStridedSlice S171x64 ![0, 192] A slices_S512x768_o0_192_S171x64⟩, ⟨S171x64, extractStridedSlice S171x64 ![0, 256] A slices_S512x768_o0_256_S171x64⟩, ⟨S171x64, extractStridedSlice S171x64 ![0, 320] A slices_S512x768_o0_320_S171x64⟩, ⟨S171x64, extractStridedSlice S171x64 ![0, 384] A slices_S512x768_o0_384_S171x64⟩, ⟨S171x64, extractStridedSlice S171x64 ![0, 448] A slices_S512x768_o0_448_S171x64⟩, ⟨S170x64, extractStridedSlice S170x64 ![0, 512] A slices_S512x768_o0_512_S170x64⟩, ⟨S170x64, extractStridedSlice S170x64 ![0, 576] A slices_S512x768_o0_576_S170x64⟩, ⟨S170x64, extractStridedSlice S170x64 ![0, 640] A slices_S512x768_o0_640_S170x64⟩, ⟨S170x64, extractStridedSlice S170x64 ![0, 704] A slices_S512x768_o0_704_S170x64⟩] concatenates_S171x64_S171x64_S171x64_S171x64_S171x64_S171x64_S171x64_S171x64_S170x64_S170x64_S170x64_S170x64_S2048x64_d0

/-- Slice 1 of a block: for each of the twelve column groups the rows of the block that belong to it, stacked. -/
def stk1 (A : FVec F S512x768 .f32) : FVec F S2048x64 .f32 :=
  concatenate S2048x64 0 [⟨S171x64, extractStridedSlice S171x64 ![171, 0] A slices_S512x768_o171_0_S171x64⟩, ⟨S171x64, extractStridedSlice S171x64 ![171, 64] A slices_S512x768_o171_64_S171x64⟩, ⟨S171x64, extractStridedSlice S171x64 ![171, 128] A slices_S512x768_o171_128_S171x64⟩, ⟨S171x64, extractStridedSlice S171x64 ![171, 192] A slices_S512x768_o171_192_S171x64⟩, ⟨S170x64, extractStridedSlice S170x64 ![171, 256] A slices_S512x768_o171_256_S170x64⟩, ⟨S170x64, extractStridedSlice S170x64 ![171, 320] A slices_S512x768_o171_320_S170x64⟩, ⟨S170x64, extractStridedSlice S170x64 ![171, 384] A slices_S512x768_o171_384_S170x64⟩, ⟨S170x64, extractStridedSlice S170x64 ![171, 448] A slices_S512x768_o171_448_S170x64⟩, ⟨S171x64, extractStridedSlice S171x64 ![170, 512] A slices_S512x768_o170_512_S171x64⟩, ⟨S171x64, extractStridedSlice S171x64 ![170, 576] A slices_S512x768_o170_576_S171x64⟩, ⟨S171x64, extractStridedSlice S171x64 ![170, 640] A slices_S512x768_o170_640_S171x64⟩, ⟨S171x64, extractStridedSlice S171x64 ![170, 704] A slices_S512x768_o170_704_S171x64⟩] concatenates_S171x64_S171x64_S171x64_S171x64_S170x64_S170x64_S170x64_S170x64_S171x64_S171x64_S171x64_S171x64_S2048x64_d0

/-- Slice 2 of a block: for each of the twelve column groups the rows of the block that belong to it, stacked. -/
def stk2 (A : FVec F S512x768 .f32) : FVec F S2048x64 .f32 :=
  concatenate S2048x64 0 [⟨S170x64, extractStridedSlice S170x64 ![342, 0] A slices_S512x768_o342_0_S170x64⟩, ⟨S170x64, extractStridedSlice S170x64 ![342, 64] A slices_S512x768_o342_64_S170x64⟩, ⟨S170x64, extractStridedSlice S170x64 ![342, 128] A slices_S512x768_o342_128_S170x64⟩, ⟨S170x64, extractStridedSlice S170x64 ![342, 192] A slices_S512x768_o342_192_S170x64⟩, ⟨S171x64, extractStridedSlice S171x64 ![341, 256] A slices_S512x768_o341_256_S171x64⟩, ⟨S171x64, extractStridedSlice S171x64 ![341, 320] A slices_S512x768_o341_320_S171x64⟩, ⟨S171x64, extractStridedSlice S171x64 ![341, 384] A slices_S512x768_o341_384_S171x64⟩, ⟨S171x64, extractStridedSlice S171x64 ![341, 448] A slices_S512x768_o341_448_S171x64⟩, ⟨S171x64, extractStridedSlice S171x64 ![341, 512] A slices_S512x768_o341_512_S171x64⟩, ⟨S171x64, extractStridedSlice S171x64 ![341, 576] A slices_S512x768_o341_576_S171x64⟩, ⟨S171x64, extractStridedSlice S171x64 ![341, 640] A slices_S512x768_o341_640_S171x64⟩, ⟨S171x64, extractStridedSlice S171x64 ![341, 704] A slices_S512x768_o341_704_S171x64⟩] concatenates_S170x64_S170x64_S170x64_S170x64_S171x64_S171x64_S171x64_S171x64_S171x64_S171x64_S171x64_S171x64_S2048x64_d0

/-- A slice rounded to the narrow format, as one page of the output. -/
def page (a : FVec F S2048x64 .f32) : FVec F S1x2048x64 .bf16 := k0_pay17 a

/-- Each row times the inverse square root of its sum of squares, the sum held above a small constant. -/
def nrm (a : FVec F S2048x64 .f32) : FVec F S2048x64 .f32 := k0_pay20 a

/-- One chunk's scores: five hundred and twelve of the keys against all the queries. -/
def chunk0 (k q : FVec F S2048x64 .f32) : FVec F S1x2048 .f32 :=
  shapeCast S1x2048 (multiReduction .maximumf [0] S2048 (matmul dot_S512x64_S2048x64_S512x2048_1_1_0_0_n_n none (extractStridedSlice S512x64 ![0, 0] k slices_S2048x64_o0_0_S512x64) q (constant S512x2048 .f32 0x00000000#32)) 0xFF800000#32 reduces_S512x2048_S2048 (.inl rfl) rfl) shapeCasts_S2048_S1x2048
/-- The largest products of each column over the second quarter of the keys. -/
def chunk1 (k q : FVec F S2048x64 .f32) : FVec F S1x2048 .f32 :=
  shapeCast S1x2048 (multiReduction .maximumf [0] S2048 (matmul dot_S512x64_S2048x64_S512x2048_1_1_0_0_n_n none (extractStridedSlice S512x64 ![512, 0] k slices_S2048x64_o512_0_S512x64) q (constant S512x2048 .f32 0x00000000#32)) 0xFF800000#32 reduces_S512x2048_S2048 (.inl rfl) rfl) shapeCasts_S2048_S1x2048
/-- The largest products of each column over the third quarter of the keys. -/
def chunk2 (k q : FVec F S2048x64 .f32) : FVec F S1x2048 .f32 :=
  shapeCast S1x2048 (multiReduction .maximumf [0] S2048 (matmul dot_S512x64_S2048x64_S512x2048_1_1_0_0_n_n none (extractStridedSlice S512x64 ![1024, 0] k slices_S2048x64_o1024_0_S512x64) q (constant S512x2048 .f32 0x00000000#32)) 0xFF800000#32 reduces_S512x2048_S2048 (.inl rfl) rfl) shapeCasts_S2048_S1x2048
/-- The largest products of each column over the last quarter of the keys. -/
def chunk3 (k q : FVec F S2048x64 .f32) : FVec F S1x2048 .f32 :=
  shapeCast S1x2048 (multiReduction .maximumf [0] S2048 (matmul dot_S512x64_S2048x64_S512x2048_1_1_0_0_n_n none (extractStridedSlice S512x64 ![1536, 0] k slices_S2048x64_o1536_0_S512x64) q (constant S512x2048 .f32 0x00000000#32)) 0xFF800000#32 reduces_S512x2048_S2048 (.inl rfl) rfl) shapeCasts_S2048_S1x2048

/-- For each query its largest score over the keys, chunk after chunk from minus infinity. -/
def colMax (k q : FVec F S2048x64 .f32) : FVec F S1x1x2048 .f32 :=
  shapeCast S1x1x2048 (maximumf (maximumf (maximumf (maximumf (broadcast S1x2048 (Scalar.ofBits .f32 0xFF800000#32)) (chunk0 k q)) (chunk1 k q)) (chunk2 k q)) (chunk3 k q)) shapeCasts_S1x2048_S1x1x2048

/-- Page 0 of three. -/
abbrev rp0 : Rect S3x2048x64 := Rect.unit (s := S3x2048x64) ![0, 0, 0] S1x2048x64.size inb_S3x2048x64_S1x2048x64_0_0_0
/-- Page 1 of three. -/
abbrev rp1 : Rect S3x2048x64 := Rect.unit (s := S3x2048x64) ![1, 0, 0] S1x2048x64.size inb_S3x2048x64_S1x2048x64_1_0_0
/-- Page 2 of three. -/
abbrev rp2 : Rect S3x2048x64 := Rect.unit (s := S3x2048x64) ![2, 0, 0] S1x2048x64.size inb_S3x2048x64_S1x2048x64_2_0_0
/-- Row 0 of three. -/
abbrev rw0 : Rect S3x1x2048 := Rect.unit (s := S3x1x2048) ![0, 0, 0] S1x1x2048.size inb_S3x1x2048_S1x1x2048_0_0_0
/-- Row 1 of three. -/
abbrev rw1 : Rect S3x1x2048 := Rect.unit (s := S3x1x2048) ![1, 0, 0] S1x1x2048.size inb_S3x1x2048_S1x1x2048_1_0_0
/-- Row 2 of three. -/
abbrev rw2 : Rect S3x1x2048 := Rect.unit (s := S3x1x2048) ![2, 0, 0] S1x1x2048.size inb_S3x1x2048_S1x1x2048_2_0_0

/-- The three pages of a stacked output. -/
def pages (A : FVec F S512x768 .f32) : Vec F S3x2048x64 .bf16 :=
  View.canon [⟨rp2, page (stk2 A)⟩, ⟨rp1, page (stk1 A)⟩, ⟨rp0, page (stk0 A)⟩]

/-- The three rows of largest scores. -/
def rows (Q K : FVec F S512x768 .f32) : Vec F S3x1x2048 .f32 :=
  View.canon [⟨rw2, colMax (nrm (stk2 K)) (nrm (stk2 Q))⟩, ⟨rw1, colMax (nrm (stk1 K)) (nrm (stk1 Q))⟩, ⟨rw0, colMax (nrm (stk0 K)) (nrm (stk0 Q))⟩]

/-! ## The second body -/

/-- One round of the choice: the current scores with the chosen position struck out, and the chosen positions so far. -/
def trip (tab : Vec F S24x2048 .i32) (k : Fin k1_t1_loop.trips) (acc : FVec F S24x2048 .f32 × IVec S24x64 32) : FVec F S24x2048 .f32 × IVec S24x64 32 :=
  (k1_pay6 tab acc.1, k1_pay5 tab k acc.1 acc.2)

/-- The sixty-four chosen positions of every slice, best first. -/
def topk (tab : Vec F S24x2048 .i32) (m : Vec F S24x1x2048 .f32) : IVec S24x64 32 :=
  k1_pay7 (Scf.fold (trip tab) (k1_pay2 m, k1_pay3)).2

/-- Row `c` of the chosen positions. -/
def pick (c : BitVec 32) (idx : Vec F S24x64 .i32) : IVec S1x64 32 :=
  shapeCast S1x64 (multiReductionI .maxsi [0] S64 (select (cmpi .eq (iota .tc S24x64 32 [0] iota_S24x64_d0_w32) (broadcast S24x64 c)) idx (broadcast S24x64 4294967295#32)) 2147483648#32 reduces_S24x64_S64 rfl) shapeCasts_S64_S1x64

/-- The row of slice `r` at grid point `i`, as a word. -/
def rowOf (i : grid1.Coords) (r : BitVec 32) : BitVec 32 := Scalar.addi (Scalar.muli 3#32 (BitVec.ofNat 32 (i 0).val)) r

/-- The attention of one head at the chosen queries, put back at their rows, every other row zero. -/
def head (Q K V : Vec F S1x2048x64 .bf16) (row : IVec S1x64 32) (tr : IVec S1x2048 32) (tc : IVec S2048x1 32) : FVec F S2048x64 .f32 :=
  k1_pay22 (k1_pay8 Q) (k1_pay8 K) (k1_pay8 V) row (shapeCast S64x1 row shapeCasts_S1x64_S64x1) tr tc

/-- Column group 0 of the block: its rows in the three slices, one after the other. -/
def grp0 (a b c : FVec F S2048x64 .f32) : FVec F S512x64 .f32 :=
  concatenate S512x64 0 [⟨S171x64, extractStridedSlice S171x64 ![0, 0] a slices_S2048x64_o0_0_S171x64⟩, ⟨S171x64, extractStridedSlice S171x64 ![0, 0] b slices_S2048x64_o0_0_S171x64⟩, ⟨S170x64, extractStridedSlice S170x64 ![0, 0] c slices_S2048x64_o0_0_S170x64⟩] concatenates_S171x64_S171x64_S170x64_S512x64_d0
/-- Column group 1 of the block: its rows in the three slices, one after the other. -/
def grp1 (a b c : FVec F S2048x64 .f32) : FVec F S512x64 .f32 :=
  concatenate S512x64 0 [⟨S171x64, extractStridedSlice S171x64 ![171, 0] a slices_S2048x64_o171_0_S171x64⟩, ⟨S171x64, extractStridedSlice S171x64 ![171, 0] b slices_S2048x64_o171_0_S171x64⟩, ⟨S170x64, extractStridedSlice S170x64 ![170, 0] c slices_S2048x64_o170_0_S170x64⟩] concatenates_S171x64_S171x64_S170x64_S512x64_d0
/-- Column group 2 of the block: its rows in the three slices, one after the other. -/
def grp2 (a b c : FVec F S2048x64 .f32) : FVec F S512x64 .f32 :=
  concatenate S512x64 0 [⟨S171x64, extractStridedSlice S171x64 ![342, 0] a slices_S2048x64_o342_0_S171x64⟩, ⟨S171x64, extractStridedSlice S171x64 ![342, 0] b slices_S2048x64_o342_0_S171x64⟩, ⟨S170x64, extractStridedSlice S170x64 ![340, 0] c slices_S2048x64_o340_0_S170x64⟩] concatenates_S171x64_S171x64_S170x64_S512x64_d0
/-- Column group 3 of the block: its rows in the three slices, one after the other. -/
def grp3 (a b c : FVec F S2048x64 .f32) : FVec F S512x64 .f32 :=
  concatenate S512x64 0 [⟨S171x64, extractStridedSlice S171x64 ![513, 0] a slices_S2048x64_o513_0_S171x64⟩, ⟨S171x64, extractStridedSlice S171x64 ![513, 0] b slices_S2048x64_o513_0_S171x64⟩, ⟨S170x64, extractStridedSlice S170x64 ![510, 0] c slices_S2048x64_o510_0_S170x64⟩] concatenates_S171x64_S171x64_S170x64_S512x64_d0
/-- Column group 4 of the block: its rows in the three slices, one after the other. -/
def grp4 (a b c : FVec F S2048x64 .f32) : FVec F S512x64 .f32 :=
  concatenate S512x64 0 [⟨S171x64, extractStridedSlice S171x64 ![684, 0] a slices_S2048x64_o684_0_S171x64⟩, ⟨S170x64, extractStridedSlice S170x64 ![684, 0] b slices_S2048x64_o684_0_S170x64⟩, ⟨S171x64, extractStridedSlice S171x64 ![680, 0] c slices_S2048x64_o680_0_S171x64⟩] concatenates_S171x64_S170x64_S171x64_S512x64_d0
/-- Column group 5 of the block: its rows in the three slices, one after the other. -/
def grp5 (a b c : FVec F S2048x64 .f32) : FVec F S512x64 .f32 :=
  concatenate S512x64 0 [⟨S171x64, extractStridedSlice S171x64 ![855, 0] a slices_S2048x64_o855_0_S171x64⟩, ⟨S170x64, extractStridedSlice S170x64 ![854, 0] b slices_S2048x64_o854_0_S170x64⟩, ⟨S171x64, extractStridedSlice S171x64 ![851, 0] c slices_S2048x64_o851_0_S171x64⟩] concatenates_S171x64_S170x64_S171x64_S512x64_d0
/-- Column group 6 of the block: its rows in the three slices, one after the other. -/
def grp6 (a b c : FVec F S2048x64 .f32) : FVec F S512x64 .f32 :=
  concatenate S512x64 0 [⟨S171x64, extractStridedSlice S171x64 ![1026, 0] a slices_S2048x64_o1026_0_S171x64⟩, ⟨S170x64, extractStridedSlice S170x64 ![1024, 0] b slices_S2048x64_o1024_0_S170x64⟩, ⟨S171x64, extractStridedSlice S171x64 ![1022, 0] c slices_S2048x64_o1022_0_S171x64⟩] concatenates_S171x64_S170x64_S171x64_S512x64_d0
/-- Column group 7 of the block: its rows in the three slices, one after the other. -/
def grp7 (a b c : FVec F S2048x64 .f32) : FVec F S512x64 .f32 :=
  concatenate S512x64 0 [⟨S171x64, extractStridedSlice S171x64 ![1197, 0] a slices_S2048x64_o1197_0_S171x64⟩, ⟨S170x64, extractStridedSlice S170x64 ![1194, 0] b slices_S2048x64_o1194_0_S170x64⟩, ⟨S171x64, extractStridedSlice S171x64 ![1193, 0] c slices_S2048x64_o1193_0_S171x64⟩] concatenates_S171x64_S170x64_S171x64_S512x64_d0
/-- Column group 8 of the block: its rows in the three slices, one after the other. -/
def grp8 (a b c : FVec F S2048x64 .f32) : FVec F S512x64 .f32 :=
  concatenate S512x64 0 [⟨S170x64, extractStridedSlice S170x64 ![1368, 0] a slices_S2048x64_o1368_0_S170x64⟩, ⟨S171x64, extractStridedSlice S171x64 ![1364, 0] b slices_S2048x64_o1364_0_S171x64⟩, ⟨S171x64, extractStridedSlice S171x64 ![1364, 0] c slices_S2048x64_o1364_0_S171x64⟩] concatenates_S170x64_S171x64_S171x64_S512x64_d0
/-- Column group 9 of the block: its rows in the three slices, one after the other. -/
def grp9 (a b c : FVec F S2048x64 .f32) : FVec F S512x64 .f32 :=
  concatenate S512x64 0 [⟨S170x64, extractStridedSlice S170x64 ![1538, 0] a slices_S2048x64_o1538_0_S170x64⟩, ⟨S171x64, extractStridedSlice S171x64 ![1535, 0] b slices_S2048x64_o1535_0_S171x64⟩, ⟨S171x64, extractStridedSlice S171x64 ![1535, 0] c slices_S2048x64_o1535_0_S171x64⟩] concatenates_S170x64_S171x64_S171x64_S512x64_d0
/-- Column group 10 of the block: its rows in the three slices, one after the other. -/
def grp10 (a b c : FVec F S2048x64 .f32) : FVec F S512x64 .f32 :=
  concatenate S512x64 0 [⟨S170x64, extractStridedSlice S170x64 ![1708, 0] a slices_S2048x64_o1708_0_S170x64⟩, ⟨S171x64, extractStridedSlice S171x64 ![1706, 0] b slices_S2048x64_o1706_0_S171x64⟩, ⟨S171x64, extractStridedSlice S171x64 ![1706, 0] c slices_S2048x64_o1706_0_S171x64⟩] concatenates_S170x64_S171x64_S171x64_S512x64_d0
/-- Column group 11 of the block: its rows in the three slices, one after the other. -/
def grp11 (a b c : FVec F S2048x64 .f32) : FVec F S512x64 .f32 :=
  concatenate S512x64 0 [⟨S170x64, extractStridedSlice S170x64 ![1878, 0] a slices_S2048x64_o1878_0_S170x64⟩, ⟨S171x64, extractStridedSlice S171x64 ![1877, 0] b slices_S2048x64_o1877_0_S171x64⟩, ⟨S171x64, extractStridedSlice S171x64 ![1877, 0] c slices_S2048x64_o1877_0_S171x64⟩] concatenates_S170x64_S171x64_S171x64_S512x64_d0

/-- The block put together from its three slices: the twelve column groups side by side. -/
def unstk (a b c : FVec F S2048x64 .f32) : FVec F S512x768 .f32 :=
  concatenate S512x768 1 [⟨S512x64, grp0 a b c⟩, ⟨S512x64, grp1 a b c⟩, ⟨S512x64, grp2 a b c⟩, ⟨S512x64, grp3 a b c⟩, ⟨S512x64, grp4 a b c⟩, ⟨S512x64, grp5 a b c⟩, ⟨S512x64, grp6 a b c⟩, ⟨S512x64, grp7 a b c⟩, ⟨S512x64, grp8 a b c⟩, ⟨S512x64, grp9 a b c⟩, ⟨S512x64, grp10 a b c⟩, ⟨S512x64, grp11 a b c⟩] concatenates_S512x64_S512x64_S512x64_S512x64_S512x64_S512x64_S512x64_S512x64_S512x64_S512x64_S512x64_S512x64_S512x768_d1

/-- The last projection. -/
def linP (x : FVec F S512x768 .f32) (w : Vec F S768x768 .f32) (b : Vec F S1x768 .f32) : FVec F S512x768 .f32 :=
  addf (matmul dot_S512x768_S768x768_S512x768_1_0_0_1_n_n none x w (constant S512x768 .f32 0x00000000#32)) (broadcastTo S512x768 (shapeCast S1x768 b shapeCasts_S1x768_S1x768) broadcasts_S1x768_S512x768)

/-- The output block of grid point `i` from the tables, the chosen positions, the three operands' pages, the weights and the bias. -/
def res (i : grid1.Coords) (idx : Vec F S24x64 .i32) (tab : Vec F S24x2048 .i32) (tabT : Vec F S2048x3 .i32) (q k v : Vec F S3x2048x64 .bf16)
    (w : Vec F S768x768 .f32) (b : Vec F S1x768 .f32) : FVec F S512x768 .f32 :=
  linP (unstk
    (head (View.ld q rp0) (View.ld k rp0) (View.ld v rp0) (pick (F := F) (rowOf i 0#32) idx) (extractStridedSlice S1x2048 ![0, 0] tab slices_S24x2048_o0_0_S1x2048) (extractStridedSlice S2048x1 ![0, 0] tabT slices_S2048x3_o0_0_S2048x1))
    (head (View.ld q rp1) (View.ld k rp1) (View.ld v rp1) (pick (F := F) (rowOf i 1#32) idx) (extractStridedSlice S1x2048 ![1, 0] tab slices_S24x2048_o1_0_S1x2048) (extractStridedSlice S2048x1 ![0, 1] tabT slices_S2048x3_o0_1_S2048x1))
    (head (View.ld q rp2) (View.ld k rp2) (View.ld v rp2) (pick (F := F) (rowOf i 2#32) idx) (extractStridedSlice S1x2048 ![2, 0] tab slices_S24x2048_o2_0_S1x2048) (extractStridedSlice S2048x1 ![0, 2] tabT slices_S2048x3_o0_2_S2048x1))) w b

end Cert.KernelIdeal.Run

end
-- ==== Proof.KernelIdealStage1.lean ====
/- The first kernel region: its blocks, the run of its body, and the pipeline's obligation. -/
module

public import proofs.«01_k».proof.Proof.Gen.KernelIdeal.Launch
public import proofs.«01_k».proof.Proof.KernelIdealBody
public import proofs.«01_k».proof.Proof.Gen.KernelIdeal.Points
public import Idealize.ShloMosaic.Lib.Tactic

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of the input block. -/
abbrev ra : Rect S512x768 := Rect.unit (s := S512x768) ![0, 0] S512x768.size inb_S512x768_S512x768_0_0
/-- The whole of a weight block. -/
abbrev rb : Rect S768x768 := Rect.unit (s := S768x768) ![0, 0] S768x768.size inb_S768x768_S768x768_0_0
/-- The whole of a bias block. -/
abbrev rc : Rect S1x768 := Rect.unit (s := S1x768) ![0, 0] S1x768.size inb_S1x768_S1x768_0_0

/-- A projection of the loaded blocks. -/
def linL (x : Vec F S512x768 .f32) (w : Vec F S768x768 .f32) (b : Vec F S1x768 .f32) : FVec F S512x768 .f32 := lin (View.ld x ra) (View.ld w rb) (View.ld b rc)

/-- Three page stores fill the buffer. -/
theorem cover_pages (p0 p1 p2 : Vec F S1x2048x64 .bf16) (y : S3x2048x64.Idx) :
    ∃ pc ∈ ([⟨rp2, p0⟩, ⟨rp1, p1⟩, ⟨rp0, p2⟩] : List (View.Piece (Elt F) S3x2048x64 .bf16)), y ∈ pc.1.set :=
  View.cover_of_tiled [⟨rp2, p0⟩, ⟨rp1, p1⟩, ⟨rp0, p2⟩] S1x2048x64.size (by rfl) y
/-- Three row stores fill the buffer. -/
theorem cover_rows (p0 p1 p2 : Vec F S1x1x2048 .f32) (y : S3x1x2048.Idx) :
    ∃ pc ∈ ([⟨rw2, p0⟩, ⟨rw1, p1⟩, ⟨rw0, p2⟩] : List (View.Piece (Elt F) S3x1x2048 .f32)), y ∈ pc.1.set :=
  View.cover_of_tiled [⟨rw2, p0⟩, ⟨rw1, p1⟩, ⟨rw0, p2⟩] S1x1x2048.size (by rfl) y

set_option maxHeartbeats 1000000 in
/-- The first body on whole buffers: the inputs are left as they were, the outputs hold the pages and rows of the three projections. -/
theorem sound_kernel0 (c : Dev nD) (E : Set ℕ) (i : grid0.Coords) (arg1 : Memref sig .tc .vmem S512x768 .f32) (harg1 : arg1.IsWhole) (arg2 : Memref sig .tc .vmem S768x768 .f32) (harg2 : arg2.IsWhole) (arg3 : Memref sig .tc .vmem S768x768 .f32) (harg3 : arg3.IsWhole) (arg4 : Memref sig .tc .vmem S768x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S3x2048x64 .bf16) (harg8 : arg8.IsWhole) (arg9 : Memref sig .tc .vmem S3x2048x64 .bf16) (harg9 : arg9.IsWhole) (arg10 : Memref sig .tc .vmem S3x2048x64 .bf16) (harg10 : arg10.IsWhole) (arg11 : Memref sig .tc .vmem S3x1x2048 .f32) (harg11 : arg11.IsWhole)
    (x0 : Vec F S512x768 .f32) (x1 : Vec F S768x768 .f32) (x2 : Vec F S768x768 .f32) (x3 : Vec F S768x768 .f32) (x4 : Vec F S1x768 .f32) (x5 : Vec F S1x768 .f32) (x6 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (pages (linL x0 x1 x4)) ∗ owns (c : Thread nD τ) arg9 fullShare (pages (linL x0 x2 x5)) ∗ owns (c : Thread nD τ) arg10 fullShare (pages (linL x0 x3 x6)) ∗ owns (c : Thread nD τ) arg11 fullShare (rows (linL x0 x1 x4) (linL x0 x2 x5))) -∗ K ⟨⟩))
      ⊢ wp frame (wpE (defs₀ (F := F)) Variants.none c none) E (cc0__stage1_kernel i arg1 harg1 arg2 harg2 arg3 harg3 arg4 harg4 arg5 harg5 arg6 harg6 arg7 harg7 arg8 harg8 arg9 harg9 arg10 harg10 arg11 harg11) K := by
  simp only [cc0__stage1_kernel_eq_skeleton]; unfold cc0__stage1_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover_pages _ _ _)).trans ?_
    rfl
  isplitl [H8]
  · iexists _; isplitr
    swap; · iexact H8
    ipureintro
    refine (View.read_writes_eq_canon _ _ _ (cover_pages _ _ _)).trans ?_
    rfl
  isplitl [H9]
  · iexists _; isplitr
    swap; · iexact H9
    ipureintro
    refine (View.read_writes_eq_canon _ _ _ (cover_pages _ _ _)).trans ?_
    rfl
  iexists _; isplitr
  swap; · iexact H10
  ipureintro
  refine (View.read_writes_eq_canon _ _ _ (cover_rows _ _ _)).trans ?_
  rfl

/-- The first pipeline's proof data: the arrays as entered, the inputs' buffers at their blocks, the outputs' at what the body computes. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => pages (linL (iblk0 V c 0 t) (iblk0 V c 1 t) (iblk0 V c 4 t))
    | ⟨8, _⟩ => pages (linL (iblk0 V c 0 t) (iblk0 V c 2 t) (iblk0 V c 5 t))
    | ⟨9, _⟩ => pages (linL (iblk0 V c 0 t) (iblk0 V c 3 t) (iblk0 V c 6 t))
    | ⟨10, _⟩ => rows (linL (iblk0 V c 0 t) (iblk0 V c 1 t) (iblk0 V c 4 t)) (linL (iblk0 V c 0 t) (iblk0 V c 2 t) (iblk0 V c 5 t))
  Φ _ := Pipeline.ΦA spec0 c
  q _ := fullShare
  owed _ := 0

/-- An array's contents at region 0's entry. -/
theorem A_eq0 (c : Dev nD) (w : Fin cfg0.W) : (dat0 V c).A w = V c (Pipeline.arrRef spec0 w) := by
  dsimp only [dat0]
/-- What window 0 of region 0 holds after the body at a point. -/
theorem after0_0 (c : Dev nD) (t : Fin cfg0.N) : (dat0 V c).after 0 t = iblk0 V c 0 t := by dsimp only [dat0]
/-- What window 1 of region 0 holds after the body at a point. -/
theorem after0_1 (c : Dev nD) (t : Fin cfg0.N) : (dat0 V c).after 1 t = iblk0 V c 1 t := by dsimp only [dat0]
/-- What window 2 of region 0 holds after the body at a point. -/
theorem after0_2 (c : Dev nD) (t : Fin cfg0.N) : (dat0 V c).after 2 t = iblk0 V c 2 t := by dsimp only [dat0]
/-- What window 3 of region 0 holds after the body at a point. -/
theorem after0_3 (c : Dev nD) (t : Fin cfg0.N) : (dat0 V c).after 3 t = iblk0 V c 3 t := by dsimp only [dat0]
/-- What window 4 of region 0 holds after the body at a point. -/
theorem after0_4 (c : Dev nD) (t : Fin cfg0.N) : (dat0 V c).after 4 t = iblk0 V c 4 t := by dsimp only [dat0]
/-- What window 5 of region 0 holds after the body at a point. -/
theorem after0_5 (c : Dev nD) (t : Fin cfg0.N) : (dat0 V c).after 5 t = iblk0 V c 5 t := by dsimp only [dat0]
/-- What window 6 of region 0 holds after the body at a point. -/
theorem after0_6 (c : Dev nD) (t : Fin cfg0.N) : (dat0 V c).after 6 t = iblk0 V c 6 t := by dsimp only [dat0]
/-- What window 7 of region 0 holds after the body at a point. -/
theorem after0_7 (c : Dev nD) (t : Fin cfg0.N) : (dat0 V c).after 7 t = pages (linL (iblk0 V c 0 t) (iblk0 V c 1 t) (iblk0 V c 4 t)) := by dsimp only [dat0]
/-- What window 8 of region 0 holds after the body at a point. -/
theorem after0_8 (c : Dev nD) (t : Fin cfg0.N) : (dat0 V c).after 8 t = pages (linL (iblk0 V c 0 t) (iblk0 V c 2 t) (iblk0 V c 5 t)) := by dsimp only [dat0]
/-- What window 9 of region 0 holds after the body at a point. -/
theorem after0_9 (c : Dev nD) (t : Fin cfg0.N) : (dat0 V c).after 9 t = pages (linL (iblk0 V c 0 t) (iblk0 V c 3 t) (iblk0 V c 6 t)) := by dsimp only [dat0]
/-- What window 10 of region 0 holds after the body at a point. -/
theorem after0_10 (c : Dev nD) (t : Fin cfg0.N) : (dat0 V c).after 10 t = rows (linL (iblk0 V c 0 t) (iblk0 V c 1 t) (iblk0 V c 4 t)) (linL (iblk0 V c 0 t) (iblk0 V c 2 t) (iblk0 V c 5 t)) := by dsimp only [dat0]
/-- Input window 0's buffer holds its block when the body starts. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- Input window 1's buffer holds its block when the body starts. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- Input window 2's buffer holds its block when the body starts. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
/-- Input window 3's buffer holds its block when the body starts. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
/-- Input window 4's buffer holds its block when the body starts. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
/-- Input window 5's buffer holds its block when the body starts. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
/-- Input window 6's buffer holds its block when the body starts. -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-- What the body of region 0 is given at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- What it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The first body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t` is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The pipeline's obligation on the body of region 0, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.KernelIdealStage2.lean ====
/- The second kernel region: its blocks, the runs of its body with and without the choice of the queries, and the pipeline's obligation. -/
module

public import proofs.«01_k».proof.Proof.Gen.KernelIdeal.Launch
public import proofs.«01_k».proof.Proof.KernelIdealBody
public import proofs.«01_k».proof.Proof.Gen.KernelIdeal.Points
public import proofs.«01_k».proof.Proof.Gen.KernelIdeal.Loops
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's branch is taken at the first point only. -/
theorem cond_iff : ∀ t : Fin cfg1.N, k1_cond1 (grid1.coords t) = 1#1 ↔ t.val = 0 :=
  (fun t => by
    have ht : t.val < 8 := Nat.lt_of_lt_of_eq t.isLt N_1
    have e0 : (grid1.coords t 0).val = t.val / 1 % 8 := Pipeline.Grid.coords_val t 0 (by decide) rfl
    simp only [k1_cond1, e0]
    word_cmp
   : ∀ t : Fin grid1.N, k1_cond1 (grid1.coords t) = 1#1 ↔ t.val = 0)

/-- The whole of the wide table. -/
abbrev rA : Rect S24x2048 := Rect.unit (s := S24x2048) ![0, 0] S24x2048.size inb_S24x2048_S24x2048_0_0
/-- The whole of the tall table. -/
abbrev rB : Rect S2048x3 := Rect.unit (s := S2048x3) ![0, 0] S2048x3.size inb_S2048x3_S2048x3_0_0
/-- The whole of the scores. -/
abbrev rC : Rect S24x1x2048 := Rect.unit (s := S24x1x2048) ![0, 0, 0] S24x1x2048.size inb_S24x1x2048_S24x1x2048_0_0_0
/-- The whole of the kept positions. -/
abbrev rD : Rect S24x64 := Rect.unit (s := S24x64) ![0, 0] S24x64.size inb_S24x64_S24x64_0_0
/-- The whole of the output block. -/
abbrev rE : Rect S512x768 := Rect.unit (s := S512x768) ![0, 0] S512x768.size inb_S512x768_S512x768_0_0
/-- The whole of the last weights. -/
abbrev rF : Rect S768x768 := Rect.unit (s := S768x768) ![0, 0] S768x768.size inb_S768x768_S768x768_0_0
/-- The whole of the last bias. -/
abbrev rG : Rect S1x768 := Rect.unit (s := S1x768) ![0, 0] S1x768.size inb_S1x768_S1x768_0_0

/-- One store fills the output block. -/
theorem cover_out (p : Vec F S512x768 .f32) (y : S512x768.Idx) :
    ∃ pc ∈ ([⟨rE, p⟩] : List (View.Piece (Elt F) S512x768 .f32)), y ∈ pc.1.set :=
  View.cover_of_tiled [⟨rE, p⟩] S512x768.size (by rfl) y
/-- One store fills the chosen positions. -/
theorem cover_idx (p : Vec F S24x64 .i32) (y : S24x64.Idx) :
    ∃ pc ∈ ([⟨rD, p⟩] : List (View.Piece (Elt F) S24x64 .i32)), y ∈ pc.1.set :=
  View.cover_of_tiled [⟨rD, p⟩] S24x64.size (by rfl) y

/-- The chosen positions the first point leaves, from the loaded blocks. -/
def idxL (x0 : Vec F S24x2048 .i32) (x2 : Vec F S24x1x2048 .f32) : Vec F S24x64 .i32 := View.canon [⟨rD, topk (View.ld x0 rA) (View.ld x2 rC)⟩]

/-- The output block from the loaded blocks. -/
def resL (i : grid1.Coords) (idx : Vec F S24x64 .i32) (x0 : Vec F S24x2048 .i32) (x1 : Vec F S2048x3 .i32) (x3 x4 x5 : Vec F S3x2048x64 .bf16) (x6 : Vec F S768x768 .f32) (x7 : Vec F S1x768 .f32) : Vec F S512x768 .f32 :=
  View.canon [⟨rE, res i (View.ld idx rD) (View.ld x0 rA) (View.ld x1 rB) x3 x4 x5 (View.ld x6 rF) (View.ld x7 rG)⟩]

/-- The last steps of the body, from the three heads: the block is put together from its column groups and projected. -/
theorem res_of {a b c A B C : FVec F S2048x64 .f32} {e f : FVec F S512x64 .f32} {g h : FVec F S171x64 .f32} {w : Vec F S768x768 .f32} {bias : Vec F S1x768 .f32}
    (ha : a = A) (hb : b = B) (hc : c = C) (he : e = grp0 a b c) (hf : f = grp1 a b c) (hg : g = k1_pay30 a) (hh : h = k1_pay31 b) :
    k1_pay1 a b c e f g h w bias = linP (unstk A B C) w bias := by
  subst ha hb hc he hf hg hh; rfl

set_option maxHeartbeats 1600000 in
/-- The second body at the first point: the positions are chosen, then the output block computed from them. -/
theorem sound_kernel1A (c : Dev nD) (E : Set ℕ) (i : grid1.Coords) (arg1 : Memref sig .tc .vmem S24x2048 .i32) (harg1 : arg1.IsWhole) (arg2 : Memref sig .tc .vmem S2048x3 .i32) (harg2 : arg2.IsWhole) (arg3 : Memref sig .tc .vmem S24x1x2048 .f32) (harg3 : arg3.IsWhole) (arg4 : Memref sig .tc .vmem S3x2048x64 .bf16) (harg4 : arg4.IsWhole) (arg5 : Memref sig .tc .vmem S3x2048x64 .bf16) (harg5 : arg5.IsWhole) (arg6 : Memref sig .tc .vmem S3x2048x64 .bf16) (harg6 : arg6.IsWhole) (arg7 : Memref sig .tc .vmem S768x768 .f32) (harg7 : arg7.IsWhole) (arg8 : Memref sig .tc .vmem S1x768 .f32) (harg8 : arg8.IsWhole) (arg9 : Memref sig .tc .vmem S512x768 .f32) (harg9 : arg9.IsWhole) (arg10 : Memref sig .tc .vmem S24x64 .i32) (harg10 : arg10.IsWhole) (hc : k1_cond1 i = 1#1)
    (x0 : Vec F S24x2048 .i32) (x1 : Vec F S2048x3 .i32) (x2 : Vec F S24x1x2048 .f32) (x3 : Vec F S3x2048x64 .bf16) (x4 : Vec F S3x2048x64 .bf16) (x5 : Vec F S3x2048x64 .bf16) (x6 : Vec F S768x768 .f32) (x7 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (resL i (idxL x0 x2) x0 x1 x3 x4 x5 x6 x7) ∗ owns (c : Thread nD τ) arg10 fullShare (idxL x0 x2)) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10) K := by
  simp only [cc1__stage2_kernel_eq_skeleton]; unfold cc1__stage2_kernel_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds, %fs, -, HS⟩, Hk⟩
  subst hf0 hf1 hf2 hf3 hf4 hf5 hf6 hf7
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    refine (View.read_writes_eq_canon _ _ _ (cover_out _)).trans ?_
    rw [show idxL (View.read (Elt F) arg1.view f0) (View.read (Elt F) arg3.view f2)
        = View.read (Elt F) arg10.view (arg10.view.writes (Elt F) arg10.view.junk [⟨rD, topk (View.ld (View.read (Elt F) arg1.view f0) rA) (View.ld (View.read (Elt F) arg3.view f2) rC)⟩])
      from ((View.read_writes_eq_canon _ _ _ (cover_idx _)).trans rfl).symm]
    unfold resL res
    refine congrArg (fun p => View.canon [⟨rE, p⟩]) ?_
    refine (res_of ?_ ?_ ?_ ?_ ?_ ?_ ?_).trans (congrArg₂ (linP _) ?_ ?_)
    · unfold head; rfl
    · unfold head; rfl
    · unfold head; rfl
    · rfl
    · rfl
    · rfl
    · rfl
    · rfl
    · rfl
  iexists _; isplitr
  swap; · iexact HS
  ipureintro
  refine (View.read_writes_eq_canon _ _ _ (cover_idx _)).trans ?_
  rfl

set_option maxHeartbeats 1600000 in
/-- The second body at a later point: the output block is computed from the positions chosen before. -/
theorem sound_kernel1B (c : Dev nD) (E : Set ℕ) (i : grid1.Coords) (arg1 : Memref sig .tc .vmem S24x2048 .i32) (harg1 : arg1.IsWhole) (arg2 : Memref sig .tc .vmem S2048x3 .i32) (harg2 : arg2.IsWhole) (arg3 : Memref sig .tc .vmem S24x1x2048 .f32) (harg3 : arg3.IsWhole) (arg4 : Memref sig .tc .vmem S3x2048x64 .bf16) (harg4 : arg4.IsWhole) (arg5 : Memref sig .tc .vmem S3x2048x64 .bf16) (harg5 : arg5.IsWhole) (arg6 : Memref sig .tc .vmem S3x2048x64 .bf16) (harg6 : arg6.IsWhole) (arg7 : Memref sig .tc .vmem S768x768 .f32) (harg7 : arg7.IsWhole) (arg8 : Memref sig .tc .vmem S1x768 .f32) (harg8 : arg8.IsWhole) (arg9 : Memref sig .tc .vmem S512x768 .f32) (harg9 : arg9.IsWhole) (arg10 : Memref sig .tc .vmem S24x64 .i32) (harg10 : arg10.IsWhole) (hc : ¬ k1_cond1 i = 1#1)
    (x0 : Vec F S24x2048 .i32) (x1 : Vec F S2048x3 .i32) (x2 : Vec F S24x1x2048 .f32) (x3 : Vec F S3x2048x64 .bf16) (x4 : Vec F S3x2048x64 .bf16) (x5 : Vec F S3x2048x64 .bf16) (x6 : Vec F S768x768 .f32) (x7 : Vec F S1x768 .f32) (xs : Vec F S24x64 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (resL i xs x0 x1 x3 x4 x5 x6 x7) ∗ owns (c : Thread nD τ) arg10 fullShare xs) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10) K := by
  simp only [cc1__stage2_kernel_eq_skeleton]; unfold cc1__stage2_kernel_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
  subst hf0 hf1 hf2 hf3 hf4 hf5 hf6 hf7 hfs
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    refine (View.read_writes_eq_canon _ _ _ (cover_out _)).trans ?_
    unfold resL res
    refine congrArg (fun p => View.canon [⟨rE, p⟩]) ?_
    refine (res_of ?_ ?_ ?_ ?_ ?_ ?_ ?_).trans (congrArg₂ (linP _) ?_ ?_)
    · unfold head; rfl
    · unfold head; rfl
    · unfold head; rfl
    · rfl
    · rfl
    · rfl
    · rfl
    · rfl
    · rfl
  iexists _; isplitr; · ipureintro; rfl
  iexact HS

/-- The first point. -/
def pt0 : Fin cfg1.N := ⟨0, by rw [show cfg1.N = 8 from N_1]; decide⟩

/-- The positions chosen at the first point. -/
def idx1 (c : Dev nD) : Vec F S24x64 .i32 := idxL (iblk1 V c 0 pt0) (iblk1 V c 2 pt0)

/-- The scratch buffer, whole. -/
abbrev scM : Memref sig .tc .vmem S24x64 .i32 := Memref.whole cc1_scratch0

/-- What rides beside the second region's windows: the first region's buffers at anything, the scratch as `S` says, the generator register at some state. -/
def PhiWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ S) ∗ (∃ r, prngReg c r))

/-- Before any point the scratch holds anything. -/
theorem PhiA_eq (c : Dev nD) : (Pipeline.ΦA spec1 c : sProp 𝕄) = PhiWith c iprop(∃ d, owns (c : Thread nD τ) scM fullShare d) := by
  unfold Pipeline.ΦA PhiWith; rw [scopedRest1_eq]; simp only [scM, owns_whole]; try rfl

/-- The invariant before position `n`: before the first point the scratch at anything, afterwards at the chosen positions. -/
def PhiS (c : Dev nD) : (n : ℕ) → n ≤ cfg1.N → sProp 𝕄
  | 0, _ => PhiWith c iprop(∃ d, owns (c : Thread nD τ) scM fullShare d)
  | _ + 1, _ => PhiWith c (owns (c : Thread nD τ) scM fullShare (idx1 V c))

/-- The invariant before the first point. -/
theorem PhiS_zero (c : Dev nD) (n : ℕ) (h : n ≤ cfg1.N) (hz : n = 0) : PhiS V c n h = PhiWith c iprop(∃ d, owns (c : Thread nD τ) scM fullShare d) := by
  subst hz; rfl

/-- The invariant after the first point. -/
theorem PhiS_pos (c : Dev nD) (n : ℕ) (h : n ≤ cfg1.N) (hz : n ≠ 0) :
    PhiS V c n h = PhiWith c (owns (c : Thread nD τ) scM fullShare (idx1 V c)) := by
  cases n with
  | zero => exact absurd rfl hz
  | succ n => rfl

/-- The second pipeline's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => resL (grid1.coords t) (idx1 V c) (iblk1 V c 0 t) (iblk1 V c 1 t) (iblk1 V c 3 t) (iblk1 V c 4 t) (iblk1 V c 5 t) (iblk1 V c 6 t) (iblk1 V c 7 t)
  Φ t := PhiS V c t.val (Nat.le_of_lt_succ t.isLt)
  q _ := fullShare
  owed _ := 0

/-- An array's contents at region 1's entry. -/
theorem A_eq1 (c : Dev nD) (w : Fin cfg1.W) : (dat1 V c).A w = V c (Pipeline.arrRef spec1 w) := by
  dsimp only [dat1]

/-- The invariant at a point's start. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t
/-- What window 0 of region 1 holds after the body at a point. -/
theorem after1_0 (c : Dev nD) (t : Fin cfg1.N) : (dat1 V c).after 0 t = iblk1 V c 0 t := by dsimp only [dat1]
/-- What window 1 of region 1 holds after the body at a point. -/
theorem after1_1 (c : Dev nD) (t : Fin cfg1.N) : (dat1 V c).after 1 t = iblk1 V c 1 t := by dsimp only [dat1]
/-- What window 2 of region 1 holds after the body at a point. -/
theorem after1_2 (c : Dev nD) (t : Fin cfg1.N) : (dat1 V c).after 2 t = iblk1 V c 2 t := by dsimp only [dat1]
/-- What window 3 of region 1 holds after the body at a point. -/
theorem after1_3 (c : Dev nD) (t : Fin cfg1.N) : (dat1 V c).after 3 t = iblk1 V c 3 t := by dsimp only [dat1]
/-- What window 4 of region 1 holds after the body at a point. -/
theorem after1_4 (c : Dev nD) (t : Fin cfg1.N) : (dat1 V c).after 4 t = iblk1 V c 4 t := by dsimp only [dat1]
/-- What window 5 of region 1 holds after the body at a point. -/
theorem after1_5 (c : Dev nD) (t : Fin cfg1.N) : (dat1 V c).after 5 t = iblk1 V c 5 t := by dsimp only [dat1]
/-- What window 6 of region 1 holds after the body at a point. -/
theorem after1_6 (c : Dev nD) (t : Fin cfg1.N) : (dat1 V c).after 6 t = iblk1 V c 6 t := by dsimp only [dat1]
/-- What window 7 of region 1 holds after the body at a point. -/
theorem after1_7 (c : Dev nD) (t : Fin cfg1.N) : (dat1 V c).after 7 t = iblk1 V c 7 t := by dsimp only [dat1]
/-- What window 8 of region 1 holds after the body at a point. -/
theorem after1_8 (c : Dev nD) (t : Fin cfg1.N) : (dat1 V c).after 8 t = resL (grid1.coords t) (idx1 V c) (iblk1 V c 0 t) (iblk1 V c 1 t) (iblk1 V c 3 t) (iblk1 V c 4 t) (iblk1 V c 5 t) (iblk1 V c 6 t) (iblk1 V c 7 t) := by dsimp only [dat1]
/-- Input window 0's buffer holds its block when the body starts. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- Input window 1's buffer holds its block when the body starts. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- Input window 2's buffer holds its block when the body starts. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
/-- Input window 3's buffer holds its block when the body starts. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
/-- Input window 4's buffer holds its block when the body starts. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
/-- Input window 5's buffer holds its block when the body starts. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
/-- Input window 6's buffer holds its block when the body starts. -/
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
/-- Input window 7's buffer holds its block when the body starts. -/
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-- What the body of region 1 is given at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- What it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1600000 in
/-- The second body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8]
  rw [show (dat1 V c).Φ t.succ = PhiS V c (t.val + 1) t.isLt from rfl, PhiS_pos V c _ _ (Nat.succ_ne_zero _)]
  by_cases hz : t.val = 0
  · rw [PhiS_castSucc V c t, PhiS_zero V c _ _ hz]
    have ht : t = pt0 := Fin.ext hz
    subst ht
    unfold PhiWith idx1
    iintro ⟨⟨⟨HR0, HR1, HR2, HR3, HR4, HR5, HR6, HR7, HR8, HR9, HR10, HR11, HR12, HR13, HR14, HR15, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel1A c Set.univ (grid1.coords pt0) _ _ _ _ _ _ _ _ _ _ _ _ _ _ _ _ _ _ _ (Memref.isWhole_whole _) ((cond_iff pt0).mpr rfl) (iblk1 V c 0 pt0) (iblk1 V c 1 pt0) (iblk1 V c 2 pt0) (iblk1 V c 3 pt0) (iblk1 V c 4 pt0) (iblk1 V c 5 pt0) (iblk1 V c 6 pt0) (iblk1 V c 7 pt0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HR0 HR1 HR2 HR3 HR4 HR5 HR6 HR7 HR8 HR9 HR10 HR11 HR12 HR13 HR14 HR15 HS Hg]
    · isplitr [Hg]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiS_castSucc V c t, PhiS_pos V c _ _ hz]
    unfold PhiWith
    iintro ⟨⟨⟨HR0, HR1, HR2, HR3, HR4, HR5, HR6, HR7, HR8, HR9, HR10, HR11, HR12, HR13, HR14, HR15, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel1B c Set.univ (grid1.coords t) _ _ _ _ _ _ _ _ _ _ _ _ _ _ _ _ _ _ _ (Memref.isWhole_whole _) (fun h => hz ((cond_iff t).mp h)) (iblk1 V c 0 t) (iblk1 V c 1 t) (iblk1 V c 2 t) (iblk1 V c 3 t) (iblk1 V c 4 t) (iblk1 V c 5 t) (iblk1 V c 6 t) (iblk1 V c 7 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HR0 HR1 HR2 HR3 HR4 HR5 HR6 HR7 HR8 HR9 HR10 HR11 HR12 HR13 HR14 HR15 HS Hg]
    · isplitr [Hg]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t` is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The pipeline's obligation on the body of region 1, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the second region is the invariant before its first point. -/
theorem hin1 (c : Dev nD) : Pipeline.ΦA spec1 c ⊢ (dat1 V c).Φ 0 := by
  rw [show (dat1 V c).Φ 0 = PhiS V c 0 (Nat.zero_le _) from rfl, PhiS_zero V c 0 _ rfl, PhiA_eq]
  try exact Idealize.SL.BI.Entails.refl _

/-- After the last point the invariant forgets the scratch's contents. -/
theorem hout1 (c : Dev nD) : (dat1 V c).Φ (Fin.last cfg1.N) ⊢ Pipeline.ΦA spec1 c := by
  rw [show (dat1 V c).Φ (Fin.last cfg1.N) = PhiS V c cfg1.N le_rfl from rfl, PhiS_pos V c _ _ (by rw [show cfg1.N = 8 from N_1]; decide), PhiA_eq]
  unfold PhiWith
  iintro ⟨⟨HR0, HR1, HR2, HR3, HR4, HR5, HR6, HR7, HR8, HR9, HR10, HR11, HR12, HR13, HR14, HR15, HS⟩, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    iexists _; iexact HS
  iexact Hg

end Cert.KernelIdeal.Run

end
-- ==== Proof.KernelIdealRun.lean ====
/- The run of the whole program: the buffer contents at each boundary and the launch over the four segments. -/
module

public import proofs.«01_k».proof.Proof.KernelIdealStage1
public import proofs.«01_k».proof.Proof.KernelIdealStage2
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_c, main_c_0, main_v0, main_v1, main_v2, main_v3, main_v4]
/-- Each operation of `hostOps0` writes inside the list. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7]
/-- Each operation of `hostOps2` writes inside the list. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments at boundary 0 are as launched. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments at boundary 1 are as launched. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (dat0 (V1 m ρ) c).arrAt w cfg0.N
/-- At region 0's exit each of its arrays holds what the pipeline leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is none of region 0's arrays keeps its contents. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments at boundary 2 are as launched. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Every other buffer holds at region 0's exit what it held at entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered. -/
def W3 (c : Dev nD) : Valuation τ sig (Elt F) :=
  Pipeline.withArrays spec1 c (W2 m ρ c) fun w => (dat1 (V2 m ρ) c).arrAt w cfg1.N
/-- At region 1's exit each of its arrays holds what the pipeline leaves. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- A buffer that is none of region 1's arrays keeps its contents. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments at boundary 3 are as launched. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- Every other buffer holds at region 1's exit what it held at entry. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- The arguments at boundary 4 are as launched. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

/-- Argument 0 ends as launched. -/
theorem W4_main_arg0 (c : Dev nD) : W4 m ρ c (Proc.devRef .tc main_arg0) = m ((c : Thread nD τ).loc main_arg0) :=
  W4_args m ρ c main_arg0 (by decide)
/-- Argument 1 ends as launched. -/
theorem W4_main_arg1 (c : Dev nD) : W4 m ρ c (Proc.devRef .tc main_arg1) = m ((c : Thread nD τ).loc main_arg1) :=
  W4_args m ρ c main_arg1 (by decide)
/-- Argument 2 ends as launched. -/
theorem W4_main_arg2 (c : Dev nD) : W4 m ρ c (Proc.devRef .tc main_arg2) = m ((c : Thread nD τ).loc main_arg2) :=
  W4_args m ρ c main_arg2 (by decide)
/-- Argument 3 ends as launched. -/
theorem W4_main_arg3 (c : Dev nD) : W4 m ρ c (Proc.devRef .tc main_arg3) = m ((c : Thread nD τ).loc main_arg3) :=
  W4_args m ρ c main_arg3 (by decide)
/-- Argument 4 ends as launched. -/
theorem W4_main_arg4 (c : Dev nD) : W4 m ρ c (Proc.devRef .tc main_arg4) = m ((c : Thread nD τ).loc main_arg4) :=
  W4_args m ρ c main_arg4 (by decide)
/-- Argument 5 ends as launched. -/
theorem W4_main_arg5 (c : Dev nD) : W4 m ρ c (Proc.devRef .tc main_arg5) = m ((c : Thread nD τ).loc main_arg5) :=
  W4_args m ρ c main_arg5 (by decide)
/-- Argument 6 ends as launched. -/
theorem W4_main_arg6 (c : Dev nD) : W4 m ρ c (Proc.devRef .tc main_arg6) = m ((c : Thread nD τ).loc main_arg6) :=
  W4_args m ρ c main_arg6 (by decide)
/-- Argument 7 ends as launched. -/
theorem W4_main_arg7 (c : Dev nD) : W4 m ρ c (Proc.devRef .tc main_arg7) = m ((c : Thread nD τ).loc main_arg7) :=
  W4_args m ρ c main_arg7 (by decide)
/-- Argument 8 ends as launched. -/
theorem W4_main_arg8 (c : Dev nD) : W4 m ρ c (Proc.devRef .tc main_arg8) = m ((c : Thread nD τ).loc main_arg8) :=
  W4_args m ρ c main_arg8 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
/-- No loop variant is needed at this level. -/
abbrev 𝒱₀ : Variants := Variants.none
/-- No core owes another anything: no level is assigned. -/
abbrev L : GSem nD τ sig → Finset Unit := fun _ => ∅
/-- Every level is zero. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 as a segment: entered from every unscoped buffer at its entry contents, left with its arrays at what the pipeline leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at its entry contents, left with its arrays at what the pipeline leaves. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1 (V2 m ρ) c)
    unfold Pipeline.ΦA
    isplitl [Hr]; · iexact Hr
    iexact Hp
  hout c := by
    rw [Pipeline.ownSems0_none, show (pdats m ρ 1 c).Φ (Fin.last _) = (dat1 (V2 m ρ) c).Φ (Fin.last cfg1.N) from rfl]
    have key := hout1 (V2 m ρ) c
    unfold Pipeline.ΦA at key
    iintro HΦ
    ihave HΦ := key $$ HΦ
    icases HΦ with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The whole run: it ends, the arguments are as launched, the result array holds what the last host stretch leaves, and every counter is zero. -/
theorem run_end : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_v7) = W4 m ρ c (Proc.devRef .tc main_v7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_v7 (by decide)))⟩), funext fun g => hz g (.inr (no_unscoped g.2))⟩)

/-- The frame claim at any values: the run ends, the arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(h.1 c).1, (h.1 c).2.1, (h.1 c).2.2.1, (h.1 c).2.2.2.1, (h.1 c).2.2.2.2.1, (h.1 c).2.2.2.2.2.1,
    (h.1 c).2.2.2.2.2.2.1, (h.1 c).2.2.2.2.2.2.2.1, (h.1 c).2.2.2.2.2.2.2.2.1⟩, h.2⟩) (run_end m ρ)

end Cert.KernelIdeal.Run

end
-- ==== Proof.Slots.lean ====
/- The order in which a slice of a block is stacked: slot `p` of slice `r` holds row `slot r p` of the slice. The two tables
   that the kernel reads list exactly these numbers, and every row has one slot. -/
module

public import proofs.«01_k».proof.KernelIdeal
public import Idealize.ShloMosaic.Lib.Pointwise

@[expose] public section

set_option maxRecDepth 16384

namespace Cert.Slots

open Idealize.ShloMosaic Idealize.ShloMosaic.TcCoe

/-- The row that slot `p` of slice 0 holds. -/
def slot0 (p : Nat) : Nat :=
  if p < 171 then 12 * p + 0 else
  if p < 342 then 12 * (p - 171) + 1 else
  if p < 513 then 12 * (p - 342) + 2 else
  if p < 684 then 12 * (p - 513) + 3 else
  if p < 855 then 12 * (p - 684) + 4 else
  if p < 1026 then 12 * (p - 855) + 5 else
  if p < 1197 then 12 * (p - 1026) + 6 else
  if p < 1368 then 12 * (p - 1197) + 7 else
  if p < 1538 then 12 * (p - 1368) + 8 else
  if p < 1708 then 12 * (p - 1538) + 9 else
  if p < 1878 then 12 * (p - 1708) + 10 else
  12 * (p - 1878) + 11

/-- The slot of row `n` in slice 0. -/
def back0 (n : Nat) : Nat :=
  if n % 12 = 0 then n / 12 + 0 else
  if n % 12 = 1 then n / 12 + 171 else
  if n % 12 = 2 then n / 12 + 342 else
  if n % 12 = 3 then n / 12 + 513 else
  if n % 12 = 4 then n / 12 + 684 else
  if n % 12 = 5 then n / 12 + 855 else
  if n % 12 = 6 then n / 12 + 1026 else
  if n % 12 = 7 then n / 12 + 1197 else
  if n % 12 = 8 then n / 12 + 1368 else
  if n % 12 = 9 then n / 12 + 1538 else
  if n % 12 = 10 then n / 12 + 1708 else
  n / 12 + 1878

/-- Every slot of slice 0 holds a row of the head. -/
theorem slot0_lt : ∀ p : Fin 2048, slot0 p.val < 2048 := by decide +kernel
/-- The slot of the row a slot of slice 0 holds is that slot. -/
theorem back0_slot : ∀ p : Fin 2048, back0 (slot0 p.val) = p.val := by decide +kernel

/-- The row that slot `p` of slice 1 holds. -/
def slot1 (p : Nat) : Nat :=
  if p < 171 then 12 * p + 4 else
  if p < 342 then 12 * (p - 171) + 5 else
  if p < 513 then 12 * (p - 342) + 6 else
  if p < 684 then 12 * (p - 513) + 7 else
  if p < 854 then 12 * (p - 684) + 8 else
  if p < 1024 then 12 * (p - 854) + 9 else
  if p < 1194 then 12 * (p - 1024) + 10 else
  if p < 1364 then 12 * (p - 1194) + 11 else
  if p < 1535 then 12 * (p - 1364) + 0 else
  if p < 1706 then 12 * (p - 1535) + 1 else
  if p < 1877 then 12 * (p - 1706) + 2 else
  12 * (p - 1877) + 3

/-- The slot of row `n` in slice 1. -/
def back1 (n : Nat) : Nat :=
  if n % 12 = 0 then n / 12 + 1364 else
  if n % 12 = 1 then n / 12 + 1535 else
  if n % 12 = 2 then n / 12 + 1706 else
  if n % 12 = 3 then n / 12 + 1877 else
  if n % 12 = 4 then n / 12 + 0 else
  if n % 12 = 5 then n / 12 + 171 else
  if n % 12 = 6 then n / 12 + 342 else
  if n % 12 = 7 then n / 12 + 513 else
  if n % 12 = 8 then n / 12 + 684 else
  if n % 12 = 9 then n / 12 + 854 else
  if n % 12 = 10 then n / 12 + 1024 else
  n / 12 + 1194

/-- Every slot of slice 1 holds a row of the head. -/
theorem slot1_lt : ∀ p : Fin 2048, slot1 p.val < 2048 := by decide +kernel
/-- The slot of the row a slot of slice 1 holds is that slot. -/
theorem back1_slot : ∀ p : Fin 2048, back1 (slot1 p.val) = p.val := by decide +kernel

/-- The row that slot `p` of slice 2 holds. -/
def slot2 (p : Nat) : Nat :=
  if p < 170 then 12 * p + 8 else
  if p < 340 then 12 * (p - 170) + 9 else
  if p < 510 then 12 * (p - 340) + 10 else
  if p < 680 then 12 * (p - 510) + 11 else
  if p < 851 then 12 * (p - 680) + 0 else
  if p < 1022 then 12 * (p - 851) + 1 else
  if p < 1193 then 12 * (p - 1022) + 2 else
  if p < 1364 then 12 * (p - 1193) + 3 else
  if p < 1535 then 12 * (p - 1364) + 4 else
  if p < 1706 then 12 * (p - 1535) + 5 else
  if p < 1877 then 12 * (p - 1706) + 6 else
  12 * (p - 1877) + 7

/-- The slot of row `n` in slice 2. -/
def back2 (n : Nat) : Nat :=
  if n % 12 = 0 then n / 12 + 680 else
  if n % 12 = 1 then n / 12 + 851 else
  if n % 12 = 2 then n / 12 + 1022 else
  if n % 12 = 3 then n / 12 + 1193 else
  if n % 12 = 4 then n / 12 + 1364 else
  if n % 12 = 5 then n / 12 + 1535 else
  if n % 12 = 6 then n / 12 + 1706 else
  if n % 12 = 7 then n / 12 + 1877 else
  if n % 12 = 8 then n / 12 + 0 else
  if n % 12 = 9 then n / 12 + 170 else
  if n % 12 = 10 then n / 12 + 340 else
  n / 12 + 510

/-- Every slot of slice 2 holds a row of the head. -/
theorem slot2_lt : ∀ p : Fin 2048, slot2 p.val < 2048 := by decide +kernel
/-- The slot of the row a slot of slice 2 holds is that slot. -/
theorem back2_slot : ∀ p : Fin 2048, back2 (slot2 p.val) = p.val := by decide +kernel

/-- The row that slot `p` of slice `r` holds, for every slice. -/
def slotN (r : Fin 3) (p : Nat) : Nat := match r with
  | 0 => slot0 p
  | 1 => slot1 p
  | 2 => slot2 p

/-- Every slot holds a row of the head. -/
theorem slotN_lt (r : Fin 3) (p : Fin 2048) : slotN r p.val < 2048 := by
  match r with
  | 0 => exact slot0_lt p
  | 1 => exact slot1_lt p
  | 2 => exact slot2_lt p

/-- `slotN` as a row. -/
def slotF (r : Fin 3) (p : Fin 2048) : Fin 2048 := ⟨slotN r p.val, slotN_lt r p⟩

/-- Different slots hold different rows. -/
theorem slotF_injective (r : Fin 3) : Function.Injective (slotF r) := by
  intro p q h
  have h' : slotN r p.val = slotN r q.val := congrArg Fin.val h
  match r, h' with
  | 0, h' => exact Fin.ext ((back0_slot p).symm.trans ((congrArg back0 h').trans (back0_slot q)))
  | 1, h' => exact Fin.ext ((back1_slot p).symm.trans ((congrArg back1 h').trans (back1_slot q)))
  | 2, h' => exact Fin.ext ((back2_slot p).symm.trans ((congrArg back2 h').trans (back2_slot q)))

/-- Slots and rows of a slice, one to one. -/
noncomputable def slot (r : Fin 3) : Equiv.Perm (Fin 2048) :=
  Equiv.ofBijective (slotF r) (Finite.injective_iff_bijective.mp (slotF_injective r))

/-- The row a slot holds, as a number. -/
theorem slot_val (r : Fin 3) (p : Fin 2048) : (slot r p).val = slotN r p.val := rfl

/-- The slice of head `j`. -/
def sl (j : Fin 24) : Fin 3 := ⟨j.val % 3, Nat.mod_lt _ (by decide)⟩

/-- The tall table holds the row of every slot of every slice. -/
theorem tall_table : ∀ p : Fin 2048, ∀ r : Fin 3, KernelIdeal.lit1 ⟨3 * p.val + r.val, by omega⟩ = BitVec.ofNat 32 (slotN r p.val) := by
  decide +kernel

end Cert.Slots

end
-- ==== Proof.StackValue.lean ====
/- What a stacked slice and an unstacked block hold at an index. -/
module

public import proofs.«01_k».proof.Proof.KernelIdealBody
public import proofs.«01_k».proof.Proof.Slots
public import Idealize.ShloMosaic.Lib.Pointwise

@[expose] public section

set_option maxRecDepth 16384

noncomputable section

namespace Cert.KernelIdeal.Value

open Cert.KernelIdeal.Gen Cert.KernelIdeal.Run Cert.Slots
open Idealize.ShloMosaic Idealize.ShloMosaic.TcCoe Idealize.SL.Sem

set_option maxHeartbeats 4000000 in
/-- Twelve pieces under one another, read at a slot of slice 0. -/
theorem cat0_at (x0 : FVec Ideal S171x64 .f32) (x1 : FVec Ideal S171x64 .f32) (x2 : FVec Ideal S171x64 .f32) (x3 : FVec Ideal S171x64 .f32) (x4 : FVec Ideal S171x64 .f32) (x5 : FVec Ideal S171x64 .f32) (x6 : FVec Ideal S171x64 .f32) (x7 : FVec Ideal S171x64 .f32) (x8 : FVec Ideal S170x64 .f32) (x9 : FVec Ideal S170x64 .f32) (x10 : FVec Ideal S170x64 .f32) (x11 : FVec Ideal S170x64 .f32) (B : Nat → Nat → EReal) (p : Fin 2048) (d : Fin 64)
    (h0 : ∀ i : Fin 171, x0 (ix2 i d) = B (0 + i.val) (0 + d.val))
    (h1 : ∀ i : Fin 171, x1 (ix2 i d) = B (0 + i.val) (64 + d.val))
    (h2 : ∀ i : Fin 171, x2 (ix2 i d) = B (0 + i.val) (128 + d.val))
    (h3 : ∀ i : Fin 171, x3 (ix2 i d) = B (0 + i.val) (192 + d.val))
    (h4 : ∀ i : Fin 171, x4 (ix2 i d) = B (0 + i.val) (256 + d.val))
    (h5 : ∀ i : Fin 171, x5 (ix2 i d) = B (0 + i.val) (320 + d.val))
    (h6 : ∀ i : Fin 171, x6 (ix2 i d) = B (0 + i.val) (384 + d.val))
    (h7 : ∀ i : Fin 171, x7 (ix2 i d) = B (0 + i.val) (448 + d.val))
    (h8 : ∀ i : Fin 170, x8 (ix2 i d) = B (0 + i.val) (512 + d.val))
    (h9 : ∀ i : Fin 170, x9 (ix2 i d) = B (0 + i.val) (576 + d.val))
    (h10 : ∀ i : Fin 170, x10 (ix2 i d) = B (0 + i.val) (640 + d.val))
    (h11 : ∀ i : Fin 170, x11 (ix2 i d) = B (0 + i.val) (704 + d.val))
    : concatenate S2048x64 0 [⟨S171x64, x0⟩, ⟨S171x64, x1⟩, ⟨S171x64, x2⟩, ⟨S171x64, x3⟩, ⟨S171x64, x4⟩, ⟨S171x64, x5⟩, ⟨S171x64, x6⟩, ⟨S171x64, x7⟩, ⟨S170x64, x8⟩, ⟨S170x64, x9⟩, ⟨S170x64, x10⟩, ⟨S170x64, x11⟩] concatenates_S171x64_S171x64_S171x64_S171x64_S171x64_S171x64_S171x64_S171x64_S170x64_S170x64_S170x64_S170x64_S2048x64_d0 (ix2 p d) = B ((0 + slot0 p.val) / 12) (64 * ((0 + slot0 p.val) % 12) + d.val) := by
  pointwise
  by_cases c0 : p.val < 171
  · rw [dif_pos c0, h0]
    have e : slot0 p.val = 12 * (p.val) + 0 := by
      unfold slot0; simp only [show p.val < 171 by omega, if_true, if_false]
    rw [e]; congr 1 <;> (try simp only []) <;> omega
  rw [dif_neg c0]
  by_cases c1 : p.val - 171 < 171
  · rw [dif_pos c1, h1]
    have e : slot0 p.val = 12 * (p.val - 171) + 1 := by
      unfold slot0; simp only [show ¬ p.val < 171 by omega, show p.val < 342 by omega, if_true, if_false]
    rw [e]; congr 1 <;> (try simp only []) <;> omega
  rw [dif_neg c1]
  by_cases c2 : p.val - 171 - 171 < 171
  · rw [dif_pos c2, h2]
    have e : slot0 p.val = 12 * (p.val - 171 - 171) + 2 := by
      unfold slot0; simp only [show ¬ p.val < 171 by omega, show ¬ p.val < 342 by omega, show p.val < 513 by omega, if_true, if_false]; omega
    rw [e]; congr 1 <;> (try simp only []) <;> omega
  rw [dif_neg c2]
  by_cases c3 : p.val - 171 - 171 - 171 < 171
  · rw [dif_pos c3, h3]
    have e : slot0 p.val = 12 * (p.val - 171 - 171 - 171) + 3 := by
      unfold slot0; simp only [show ¬ p.val < 171 by omega, show ¬ p.val < 342 by omega, show ¬ p.val < 513 by omega, show p.val < 684 by omega, if_true, if_false]; omega
    rw [e]; congr 1 <;> (try simp only []) <;> omega
  rw [dif_neg c3]
  by_cases c4 : p.val - 171 - 171 - 171 - 171 < 171
  · rw [dif_pos c4, h4]
    have e : slot0 p.val = 12 * (p.val - 171 - 171 - 171 - 171) + 4 := by
      unfold slot0; simp only [show ¬ p.val < 171 by omega, show ¬ p.val < 342 by omega, show ¬ p.val < 513 by omega, show ¬ p.val < 684 by omega, show p.val < 855 by omega, if_true, if_false]; omega
    rw [e]; congr 1 <;> (try simp only []) <;> omega
  rw [dif_neg c4]
  by_cases c5 : p.val - 171 - 171 - 171 - 171 - 171 < 171
  · rw [dif_pos c5, h5]
    have e : slot0 p.val = 12 * (p.val - 171 - 171 - 171 - 171 - 171) + 5 := by
      unfold slot0; simp only [show ¬ p.val < 171 by omega, show ¬ p.val < 342 by omega, show ¬ p.val < 513 by omega, show ¬ p.val < 684 by omega, show ¬ p.val < 855 by omega, show p.val < 1026 by omega, if_true, if_false]; omega
    rw [e]; congr 1 <;> (try simp only []) <;> omega
  rw [dif_neg c5]
  by_cases c6 : p.val - 171 - 171 - 171 - 171 - 171 - 171 < 171
  · rw [dif_pos c6, h6]
    have e : slot0 p.val = 12 * (p.val - 171 - 171 - 171 - 171 - 171 - 171) + 6 := by
      unfold slot0; simp only [show ¬ p.val < 171 by omega, show ¬ p.val < 342 by omega, show ¬ p.val < 513 by omega, show ¬ p.val < 684 by omega, show ¬ p.val < 855 by omega, show ¬ p.val < 1026 by omega, show p.val < 1197 by omega, if_true, if_false]; omega
    rw [e]; congr 1 <;> (try simp only []) <;> omega
  rw [dif_neg c6]
  by_cases c7 : p.val - 171 - 171 - 171 - 171 - 171 - 171 - 171 < 171
  · rw [dif_pos c7, h7]
    have e : slot0 p.val = 12 * (p.val - 171 - 171 - 171 - 171 - 171 - 171 - 171) + 7 := by
      unfold slot0; simp only [show ¬ p.val < 171 by omega, show ¬ p.val < 342 by omega, show ¬ p.val < 513 by omega, show ¬ p.val < 684 by omega, show ¬ p.val < 855 by omega, show ¬ p.val < 1026 by omega, show ¬ p.val < 1197 by omega, show p.val < 1368 by omega, if_true, if_false]; omega
    rw [e]; congr 1 <;> (try simp only []) <;> omega
  rw [dif_neg c7]
  by_cases c8 : p.val - 171 - 171 - 171 - 171 - 171 - 171 - 171 - 171 < 170
  · rw [dif_pos c8, h8]
    have e : slot0 p.val = 12 * (p.val - 171 - 171 - 171 - 171 - 171 - 171 - 171 - 171) + 8 := by
      unfold slot0; simp only [show ¬ p.val < 171 by omega, show ¬ p.val < 342 by omega, show ¬ p.val < 513 by omega, show ¬ p.val < 684 by omega, show ¬ p.val < 855 by omega, show ¬ p.val < 1026 by omega, show ¬ p.val < 1197 by omega, show ¬ p.val < 1368 by omega, show p.val < 1538 by omega, if_true, if_false]; omega
    rw [e]; congr 1 <;> (try simp only []) <;> omega
  rw [dif_neg c8]
  by_cases c9 : p.val - 171 - 171 - 171 - 171 - 171 - 171 - 171 - 171 - 170 < 170
  · rw [dif_pos c9, h9]
    have e : slot0 p.val = 12 * (p.val - 171 - 171 - 171 - 171 - 171 - 171 - 171 - 171 - 170) + 9 := by
      unfold slot0; simp only [show ¬ p.val < 171 by omega, show ¬ p.val < 342 by omega, show ¬ p.val < 513 by omega, show ¬ p.val < 684 by omega, show ¬ p.val < 855 by omega, show ¬ p.val < 1026 by omega, show ¬ p.val < 1197 by omega, show ¬ p.val < 1368 by omega, show ¬ p.val < 1538 by omega, show p.val < 1708 by omega, if_true, if_false]; omega
    rw [e]; congr 1 <;> (try simp only []) <;> omega
  rw [dif_neg c9]
  by_cases c10 : p.val - 171 - 171 - 171 - 171 - 171 - 171 - 171 - 171 - 170 - 170 < 170
  · rw [dif_pos c10, h10]
    have e : slot0 p.val = 12 * (p.val - 171 - 171 - 171 - 171 - 171 - 171 - 171 - 171 - 170 - 170) + 10 := by
      unfold slot0; simp only [show ¬ p.val < 171 by omega, show ¬ p.val < 342 by omega, show ¬ p.val < 513 by omega, show ¬ p.val < 684 by omega, show ¬ p.val < 855 by omega, show ¬ p.val < 1026 by omega, show ¬ p.val < 1197 by omega, show ¬ p.val < 1368 by omega, show ¬ p.val < 1538 by omega, show ¬ p.val < 1708 by omega, show p.val < 1878 by omega, if_true, if_false]; omega
    rw [e]; congr 1 <;> (try simp only []) <;> omega
  rw [dif_neg c10]
  rw [h11]
  have e : slot0 p.val = 12 * (p.val - 171 - 171 - 171 - 171 - 171 - 171 - 171 - 171 - 170 - 170 - 170) + 11 := by
    unfold slot0; simp only [show ¬ p.val < 171 by omega, show ¬ p.val < 342 by omega, show ¬ p.val < 513 by omega, show ¬ p.val < 684 by omega, show ¬ p.val < 855 by omega, show ¬ p.val < 1026 by omega, show ¬ p.val < 1197 by omega, show ¬ p.val < 1368 by omega, show ¬ p.val < 1538 by omega, show ¬ p.val < 1708 by omega, show ¬ p.val < 1878 by omega, if_false]; omega
  rw [e]; congr 1 <;> (try simp only []) <;> omega

/-- Slot `p` of slice 0 holds the entries of row `slot0 p`. -/
theorem stk0_at (A : FVec Ideal S512x768 .f32) (B : Nat → Nat → EReal) (hB : ∀ (t : Fin 512) (e : Fin 768), A (ix2 t e) = B t.val e.val) (p : Fin 2048) (d : Fin 64) :
    stk0 A (ix2 p d) = B ((0 + slot0 p.val) / 12) (64 * ((0 + slot0 p.val) % 12) + d.val) := by
  unfold stk0
  refine cat0_at _ _ _ _ _ _ _ _ _ _ _ _ B p d ?_ ?_ ?_ ?_ ?_ ?_ ?_ ?_ ?_ ?_ ?_ ?_ <;>
    (intro i; pointwise; rw [hB])

set_option maxHeartbeats 4000000 in
/-- Twelve pieces under one another, read at a slot of slice 1. -/
theorem cat1_at (x0 : FVec Ideal S171x64 .f32) (x1 : FVec Ideal S171x64 .f32) (x2 : FVec Ideal S171x64 .f32) (x3 : FVec Ideal S171x64 .f32) (x4 : FVec Ideal S170x64 .f32) (x5 : FVec Ideal S170x64 .f32) (x6 : FVec Ideal S170x64 .f32) (x7 : FVec Ideal S170x64 .f32) (x8 : FVec Ideal S171x64 .f32) (x9 : FVec Ideal S171x64 .f32) (x10 : FVec Ideal S171x64 .f32) (x11 : FVec Ideal S171x64 .f32) (B : Nat → Nat → EReal) (p : Fin 2048) (d : Fin 64)
    (h0 : ∀ i : Fin 171, x0 (ix2 i d) = B (171 + i.val) (0 + d.val))
    (h1 : ∀ i : Fin 171, x1 (ix2 i d) = B (171 + i.val) (64 + d.val))
    (h2 : ∀ i : Fin 171, x2 (ix2 i d) = B (171 + i.val) (128 + d.val))
    (h3 : ∀ i : Fin 171, x3 (ix2 i d) = B (171 + i.val) (192 + d.val))
    (h4 : ∀ i : Fin 170, x4 (ix2 i d) = B (171 + i.val) (256 + d.val))
    (h5 : ∀ i : Fin 170, x5 (ix2 i d) = B (171 + i.val) (320 + d.val))
    (h6 : ∀ i : Fin 170, x6 (ix2 i d) = B (171 + i.val) (384 + d.val))
    (h7 : ∀ i : Fin 170, x7 (ix2 i d) = B (171 + i.val) (448 + d.val))
    (h8 : ∀ i : Fin 171, x8 (ix2 i d) = B (170 + i.val) (512 + d.val))
    (h9 : ∀ i : Fin 171, x9 (ix2 i d) = B (170 + i.val) (576 + d.val))
    (h10 : ∀ i : Fin 171, x10 (ix2 i d) = B (170 + i.val) (640 + d.val))
    (h11 : ∀ i : Fin 171, x11 (ix2 i d) = B (170 + i.val) (704 + d.val))
    : concatenate S2048x64 0 [⟨S171x64, x0⟩, ⟨S171x64, x1⟩, ⟨S171x64, x2⟩, ⟨S171x64, x3⟩, ⟨S170x64, x4⟩, ⟨S170x64, x5⟩, ⟨S170x64, x6⟩, ⟨S170x64, x7⟩, ⟨S171x64, x8⟩, ⟨S171x64, x9⟩, ⟨S171x64, x10⟩, ⟨S171x64, x11⟩] concatenates_S171x64_S171x64_S171x64_S171x64_S170x64_S170x64_S170x64_S170x64_S171x64_S171x64_S171x64_S171x64_S2048x64_d0 (ix2 p d) = B ((2048 + slot1 p.val) / 12) (64 * ((2048 + slot1 p.val) % 12) + d.val) := by
  pointwise
  by_cases c0 : p.val < 171
  · rw [dif_pos c0, h0]
    have e : slot1 p.val = 12 * (p.val) + 4 := by
      unfold slot1; simp only [show p.val < 171 by omega, if_true, if_false]
    rw [e]; congr 1 <;> (try simp only []) <;> omega
  rw [dif_neg c0]
  by_cases c1 : p.val - 171 < 171
  · rw [dif_pos c1, h1]
    have e : slot1 p.val = 12 * (p.val - 171) + 5 := by
      unfold slot1; simp only [show ¬ p.val < 171 by omega, show p.val < 342 by omega, if_true, if_false]
    rw [e]; congr 1 <;> (try simp only []) <;> omega
  rw [dif_neg c1]
  by_cases c2 : p.val - 171 - 171 < 171
  · rw [dif_pos c2, h2]
    have e : slot1 p.val = 12 * (p.val - 171 - 171) + 6 := by
      unfold slot1; simp only [show ¬ p.val < 171 by omega, show ¬ p.val < 342 by omega, show p.val < 513 by omega, if_true, if_false]; omega
    rw [e]; congr 1 <;> (try simp only []) <;> omega
  rw [dif_neg c2]
  by_cases c3 : p.val - 171 - 171 - 171 < 171
  · rw [dif_pos c3, h3]
    have e : slot1 p.val = 12 * (p.val - 171 - 171 - 171) + 7 := by
      unfold slot1; simp only [show ¬ p.val < 171 by omega, show ¬ p.val < 342 by omega, show ¬ p.val < 513 by omega, show p.val < 684 by omega, if_true, if_false]; omega
    rw [e]; congr 1 <;> (try simp only []) <;> omega
  rw [dif_neg c3]
  by_cases c4 : p.val - 171 - 171 - 171 - 171 < 170
  · rw [dif_pos c4, h4]
    have e : slot1 p.val = 12 * (p.val - 171 - 171 - 171 - 171) + 8 := by
      unfold slot1; simp only [show ¬ p.val < 171 by omega, show ¬ p.val < 342 by omega, show ¬ p.val < 513 by omega, show ¬ p.val < 684 by omega, show p.val < 854 by omega, if_true, if_false]; omega
    rw [e]; congr 1 <;> (try simp only []) <;> omega
  rw [dif_neg c4]
  by_cases c5 : p.val - 171 - 171 - 171 - 171 - 170 < 170
  · rw [dif_pos c5, h5]
    have e : slot1 p.val = 12 * (p.val - 171 - 171 - 171 - 171 - 170) + 9 := by
      unfold slot1; simp only [show ¬ p.val < 171 by omega, show ¬ p.val < 342 by omega, show ¬ p.val < 513 by omega, show ¬ p.val < 684 by omega, show ¬ p.val < 854 by omega, show p.val < 1024 by omega, if_true, if_false]; omega
    rw [e]; congr 1 <;> (try simp only []) <;> omega
  rw [dif_neg c5]
  by_cases c6 : p.val - 171 - 171 - 171 - 171 - 170 - 170 < 170
  · rw [dif_pos c6, h6]
    have e : slot1 p.val = 12 * (p.val - 171 - 171 - 171 - 171 - 170 - 170) + 10 := by
      unfold slot1; simp only [show ¬ p.val < 171 by omega, show ¬ p.val < 342 by omega, show ¬ p.val < 513 by omega, show ¬ p.val < 684 by omega, show ¬ p.val < 854 by omega, show ¬ p.val < 1024 by omega, show p.val < 1194 by omega, if_true, if_false]; omega
    rw [e]; congr 1 <;> (try simp only []) <;> omega
  rw [dif_neg c6]
  by_cases c7 : p.val - 171 - 171 - 171 - 171 - 170 - 170 - 170 < 170
  · rw [dif_pos c7, h7]
    have e : slot1 p.val = 12 * (p.val - 171 - 171 - 171 - 171 - 170 - 170 - 170) + 11 := by
      unfold slot1; simp only [show ¬ p.val < 171 by omega, show ¬ p.val < 342 by omega, show ¬ p.val < 513 by omega, show ¬ p.val < 684 by omega, show ¬ p.val < 854 by omega, show ¬ p.val < 1024 by omega, show ¬ p.val < 1194 by omega, show p.val < 1364 by omega, if_true, if_false]; omega
    rw [e]; congr 1 <;> (try simp only []) <;> omega
  rw [dif_neg c7]
  by_cases c8 : p.val - 171 - 171 - 171 - 171 - 170 - 170 - 170 - 170 < 171
  · rw [dif_pos c8, h8]
    have e : slot1 p.val = 12 * (p.val - 171 - 171 - 171 - 171 - 170 - 170 - 170 - 170) + 0 := by
      unfold slot1; simp only [show ¬ p.val < 171 by omega, show ¬ p.val < 342 by omega, show ¬ p.val < 513 by omega, show ¬ p.val < 684 by omega, show ¬ p.val < 854 by omega, show ¬ p.val < 1024 by omega, show ¬ p.val < 1194 by omega, show ¬ p.val < 1364 by omega, show p.val < 1535 by omega, if_true, if_false]; omega
    rw [e]; congr 1 <;> (try simp only []) <;> omega
  rw [dif_neg c8]
  by_cases c9 : p.val - 171 - 171 - 171 - 171 - 170 - 170 - 170 - 170 - 171 < 171
  · rw [dif_pos c9, h9]
    have e : slot1 p.val = 12 * (p.val - 171 - 171 - 171 - 171 - 170 - 170 - 170 - 170 - 171) + 1 := by
      unfold slot1; simp only [show ¬ p.val < 171 by omega, show ¬ p.val < 342 by omega, show ¬ p.val < 513 by omega, show ¬ p.val < 684 by omega, show ¬ p.val < 854 by omega, show ¬ p.val < 1024 by omega, show ¬ p.val < 1194 by omega, show ¬ p.val < 1364 by omega, show ¬ p.val < 1535 by omega, show p.val < 1706 by omega, if_true, if_false]; omega
    rw [e]; congr 1 <;> (try simp only []) <;> omega
  rw [dif_neg c9]
  by_cases c10 : p.val - 171 - 171 - 171 - 171 - 170 - 170 - 170 - 170 - 171 - 171 < 171
  · rw [dif_pos c10, h10]
    have e : slot1 p.val = 12 * (p.val - 171 - 171 - 171 - 171 - 170 - 170 - 170 - 170 - 171 - 171) + 2 := by
      unfold slot1; simp only [show ¬ p.val < 171 by omega, show ¬ p.val < 342 by omega, show ¬ p.val < 513 by omega, show ¬ p.val < 684 by omega, show ¬ p.val < 854 by omega, show ¬ p.val < 1024 by omega, show ¬ p.val < 1194 by omega, show ¬ p.val < 1364 by omega, show ¬ p.val < 1535 by omega, show ¬ p.val < 1706 by omega, show p.val < 1877 by omega, if_true, if_false]; omega
    rw [e]; congr 1 <;> (try simp only []) <;> omega
  rw [dif_neg c10]
  rw [h11]
  have e : slot1 p.val = 12 * (p.val - 171 - 171 - 171 - 171 - 170 - 170 - 170 - 170 - 171 - 171 - 171) + 3 := by
    unfold slot1; simp only [show ¬ p.val < 171 by omega, show ¬ p.val < 342 by omega, show ¬ p.val < 513 by omega, show ¬ p.val < 684 by omega, show ¬ p.val < 854 by omega, show ¬ p.val < 1024 by omega, show ¬ p.val < 1194 by omega, show ¬ p.val < 1364 by omega, show ¬ p.val < 1535 by omega, show ¬ p.val < 1706 by omega, show ¬ p.val < 1877 by omega, if_false]; omega
  rw [e]; congr 1 <;> (try simp only []) <;> omega

/-- Slot `p` of slice 1 holds the entries of row `slot1 p`. -/
theorem stk1_at (A : FVec Ideal S512x768 .f32) (B : Nat → Nat → EReal) (hB : ∀ (t : Fin 512) (e : Fin 768), A (ix2 t e) = B t.val e.val) (p : Fin 2048) (d : Fin 64) :
    stk1 A (ix2 p d) = B ((2048 + slot1 p.val) / 12) (64 * ((2048 + slot1 p.val) % 12) + d.val) := by
  unfold stk1
  refine cat1_at _ _ _ _ _ _ _ _ _ _ _ _ B p d ?_ ?_ ?_ ?_ ?_ ?_ ?_ ?_ ?_ ?_ ?_ ?_ <;>
    (intro i; pointwise; rw [hB])

set_option maxHeartbeats 4000000 in
/-- Twelve pieces under one another, read at a slot of slice 2. -/
theorem cat2_at (x0 : FVec Ideal S170x64 .f32) (x1 : FVec Ideal S170x64 .f32) (x2 : FVec Ideal S170x64 .f32) (x3 : FVec Ideal S170x64 .f32) (x4 : FVec Ideal S171x64 .f32) (x5 : FVec Ideal S171x64 .f32) (x6 : FVec Ideal S171x64 .f32) (x7 : FVec Ideal S171x64 .f32) (x8 : FVec Ideal S171x64 .f32) (x9 : FVec Ideal S171x64 .f32) (x10 : FVec Ideal S171x64 .f32) (x11 : FVec Ideal S171x64 .f32) (B : Nat → Nat → EReal) (p : Fin 2048) (d : Fin 64)
    (h0 : ∀ i : Fin 170, x0 (ix2 i d) = B (342 + i.val) (0 + d.val))
    (h1 : ∀ i : Fin 170, x1 (ix2 i d) = B (342 + i.val) (64 + d.val))
    (h2 : ∀ i : Fin 170, x2 (ix2 i d) = B (342 + i.val) (128 + d.val))
    (h3 : ∀ i : Fin 170, x3 (ix2 i d) = B (342 + i.val) (192 + d.val))
    (h4 : ∀ i : Fin 171, x4 (ix2 i d) = B (341 + i.val) (256 + d.val))
    (h5 : ∀ i : Fin 171, x5 (ix2 i d) = B (341 + i.val) (320 + d.val))
    (h6 : ∀ i : Fin 171, x6 (ix2 i d) = B (341 + i.val) (384 + d.val))
    (h7 : ∀ i : Fin 171, x7 (ix2 i d) = B (341 + i.val) (448 + d.val))
    (h8 : ∀ i : Fin 171, x8 (ix2 i d) = B (341 + i.val) (512 + d.val))
    (h9 : ∀ i : Fin 171, x9 (ix2 i d) = B (341 + i.val) (576 + d.val))
    (h10 : ∀ i : Fin 171, x10 (ix2 i d) = B (341 + i.val) (640 + d.val))
    (h11 : ∀ i : Fin 171, x11 (ix2 i d) = B (341 + i.val) (704 + d.val))
    : concatenate S2048x64 0 [⟨S170x64, x0⟩, ⟨S170x64, x1⟩, ⟨S170x64, x2⟩, ⟨S170x64, x3⟩, ⟨S171x64, x4⟩, ⟨S171x64, x5⟩, ⟨S171x64, x6⟩, ⟨S171x64, x7⟩, ⟨S171x64, x8⟩, ⟨S171x64, x9⟩, ⟨S171x64, x10⟩, ⟨S171x64, x11⟩] concatenates_S170x64_S170x64_S170x64_S170x64_S171x64_S171x64_S171x64_S171x64_S171x64_S171x64_S171x64_S171x64_S2048x64_d0 (ix2 p d) = B ((4096 + slot2 p.val) / 12) (64 * ((4096 + slot2 p.val) % 12) + d.val) := by
  pointwise
  by_cases c0 : p.val < 170
  · rw [dif_pos c0, h0]
    have e : slot2 p.val = 12 * (p.val) + 8 := by
      unfold slot2; simp only [show p.val < 170 by omega, if_true, if_false]
    rw [e]; congr 1 <;> (try simp only []) <;> omega
  rw [dif_neg c0]
  by_cases c1 : p.val - 170 < 170
  · rw [dif_pos c1, h1]
    have e : slot2 p.val = 12 * (p.val - 170) + 9 := by
      unfold slot2; simp only [show ¬ p.val < 170 by omega, show p.val < 340 by omega, if_true, if_false]
    rw [e]; congr 1 <;> (try simp only []) <;> omega
  rw [dif_neg c1]
  by_cases c2 : p.val - 170 - 170 < 170
  · rw [dif_pos c2, h2]
    have e : slot2 p.val = 12 * (p.val - 170 - 170) + 10 := by
      unfold slot2; simp only [show ¬ p.val < 170 by omega, show ¬ p.val < 340 by omega, show p.val < 510 by omega, if_true, if_false]; omega
    rw [e]; congr 1 <;> (try simp only []) <;> omega
  rw [dif_neg c2]
  by_cases c3 : p.val - 170 - 170 - 170 < 170
  · rw [dif_pos c3, h3]
    have e : slot2 p.val = 12 * (p.val - 170 - 170 - 170) + 11 := by
      unfold slot2; simp only [show ¬ p.val < 170 by omega, show ¬ p.val < 340 by omega, show ¬ p.val < 510 by omega, show p.val < 680 by omega, if_true, if_false]; omega
    rw [e]; congr 1 <;> (try simp only []) <;> omega
  rw [dif_neg c3]
  by_cases c4 : p.val - 170 - 170 - 170 - 170 < 171
  · rw [dif_pos c4, h4]
    have e : slot2 p.val = 12 * (p.val - 170 - 170 - 170 - 170) + 0 := by
      unfold slot2; simp only [show ¬ p.val < 170 by omega, show ¬ p.val < 340 by omega, show ¬ p.val < 510 by omega, show ¬ p.val < 680 by omega, show p.val < 851 by omega, if_true, if_false]; omega
    rw [e]; congr 1 <;> (try simp only []) <;> omega
  rw [dif_neg c4]
  by_cases c5 : p.val - 170 - 170 - 170 - 170 - 171 < 171
  · rw [dif_pos c5, h5]
    have e : slot2 p.val = 12 * (p.val - 170 - 170 - 170 - 170 - 171) + 1 := by
      unfold slot2; simp only [show ¬ p.val < 170 by omega, show ¬ p.val < 340 by omega, show ¬ p.val < 510 by omega, show ¬ p.val < 680 by omega, show ¬ p.val < 851 by omega, show p.val < 1022 by omega, if_true, if_false]; omega
    rw [e]; congr 1 <;> (try simp only []) <;> omega
  rw [dif_neg c5]
  by_cases c6 : p.val - 170 - 170 - 170 - 170 - 171 - 171 < 171
  · rw [dif_pos c6, h6]
    have e : slot2 p.val = 12 * (p.val - 170 - 170 - 170 - 170 - 171 - 171) + 2 := by
      unfold slot2; simp only [show ¬ p.val < 170 by omega, show ¬ p.val < 340 by omega, show ¬ p.val < 510 by omega, show ¬ p.val < 680 by omega, show ¬ p.val < 851 by omega, show ¬ p.val < 1022 by omega, show p.val < 1193 by omega, if_true, if_false]; omega
    rw [e]; congr 1 <;> (try simp only []) <;> omega
  rw [dif_neg c6]
  by_cases c7 : p.val - 170 - 170 - 170 - 170 - 171 - 171 - 171 < 171
  · rw [dif_pos c7, h7]
    have e : slot2 p.val = 12 * (p.val - 170 - 170 - 170 - 170 - 171 - 171 - 171) + 3 := by
      unfold slot2; simp only [show ¬ p.val < 170 by omega, show ¬ p.val < 340 by omega, show ¬ p.val < 510 by omega, show ¬ p.val < 680 by omega, show ¬ p.val < 851 by omega, show ¬ p.val < 1022 by omega, show ¬ p.val < 1193 by omega, show p.val < 1364 by omega, if_true, if_false]; omega
    rw [e]; congr 1 <;> (try simp only []) <;> omega
  rw [dif_neg c7]
  by_cases c8 : p.val - 170 - 170 - 170 - 170 - 171 - 171 - 171 - 171 < 171
  · rw [dif_pos c8, h8]
    have e : slot2 p.val = 12 * (p.val - 170 - 170 - 170 - 170 - 171 - 171 - 171 - 171) + 4 := by
      unfold slot2; simp only [show ¬ p.val < 170 by omega, show ¬ p.val < 340 by omega, show ¬ p.val < 510 by omega, show ¬ p.val < 680 by omega, show ¬ p.val < 851 by omega, show ¬ p.val < 1022 by omega, show ¬ p.val < 1193 by omega, show ¬ p.val < 1364 by omega, show p.val < 1535 by omega, if_true, if_false]; omega
    rw [e]; congr 1 <;> (try simp only []) <;> omega
  rw [dif_neg c8]
  by_cases c9 : p.val - 170 - 170 - 170 - 170 - 171 - 171 - 171 - 171 - 171 < 171
  · rw [dif_pos c9, h9]
    have e : slot2 p.val = 12 * (p.val - 170 - 170 - 170 - 170 - 171 - 171 - 171 - 171 - 171) + 5 := by
      unfold slot2; simp only [show ¬ p.val < 170 by omega, show ¬ p.val < 340 by omega, show ¬ p.val < 510 by omega, show ¬ p.val < 680 by omega, show ¬ p.val < 851 by omega, show ¬ p.val < 1022 by omega, show ¬ p.val < 1193 by omega, show ¬ p.val < 1364 by omega, show ¬ p.val < 1535 by omega, show p.val < 1706 by omega, if_true, if_false]; omega
    rw [e]; congr 1 <;> (try simp only []) <;> omega
  rw [dif_neg c9]
  by_cases c10 : p.val - 170 - 170 - 170 - 170 - 171 - 171 - 171 - 171 - 171 - 171 < 171
  · rw [dif_pos c10, h10]
    have e : slot2 p.val = 12 * (p.val - 170 - 170 - 170 - 170 - 171 - 171 - 171 - 171 - 171 - 171) + 6 := by
      unfold slot2; simp only [show ¬ p.val < 170 by omega, show ¬ p.val < 340 by omega, show ¬ p.val < 510 by omega, show ¬ p.val < 680 by omega, show ¬ p.val < 851 by omega, show ¬ p.val < 1022 by omega, show ¬ p.val < 1193 by omega, show ¬ p.val < 1364 by omega, show ¬ p.val < 1535 by omega, show ¬ p.val < 1706 by omega, show p.val < 1877 by omega, if_true, if_false]; omega
    rw [e]; congr 1 <;> (try simp only []) <;> omega
  rw [dif_neg c10]
  rw [h11]
  have e : slot2 p.val = 12 * (p.val - 170 - 170 - 170 - 170 - 171 - 171 - 171 - 171 - 171 - 171 - 171) + 7 := by
    unfold slot2; simp only [show ¬ p.val < 170 by omega, show ¬ p.val < 340 by omega, show ¬ p.val < 510 by omega, show ¬ p.val < 680 by omega, show ¬ p.val < 851 by omega, show ¬ p.val < 1022 by omega, show ¬ p.val < 1193 by omega, show ¬ p.val < 1364 by omega, show ¬ p.val < 1535 by omega, show ¬ p.val < 1706 by omega, show ¬ p.val < 1877 by omega, if_false]; omega
  rw [e]; congr 1 <;> (try simp only []) <;> omega

/-- Slot `p` of slice 2 holds the entries of row `slot2 p`. -/
theorem stk2_at (A : FVec Ideal S512x768 .f32) (B : Nat → Nat → EReal) (hB : ∀ (t : Fin 512) (e : Fin 768), A (ix2 t e) = B t.val e.val) (p : Fin 2048) (d : Fin 64) :
    stk2 A (ix2 p d) = B ((4096 + slot2 p.val) / 12) (64 * ((4096 + slot2 p.val) % 12) + d.val) := by
  unfold stk2
  refine cat2_at _ _ _ _ _ _ _ _ _ _ _ _ B p d ?_ ?_ ?_ ?_ ?_ ?_ ?_ ?_ ?_ ?_ ?_ ?_ <;>
    (intro i; pointwise; rw [hB])

end Cert.KernelIdeal.Value

end
-- ==== Proof.Spec.lean ====
/- The mathematics of one head over the extended reals: the scores, which sixty-four rows they choose, and the attention of a chosen row. -/
module

public import Idealize.ShloMosaic.Lib.Pointwise

@[expose] public section

noncomputable section

namespace Cert.Spec

open Idealize.ShloMosaic

/-! ## Largest of finitely many -/

/-- The largest of finitely many values, minus infinity for none. -/
def big {n : Nat} (f : Fin n → EReal) : EReal := Finset.univ.fold max ⊥ f

/-- Every value is at most the largest. -/
theorem le_big {n : Nat} (f : Fin n → EReal) (i : Fin n) : f i ≤ big f :=
  Finset.le_fold_max (f i) |>.mpr (Or.inr ⟨i, Finset.mem_univ i, le_rfl⟩)

/-- A bound of every value bounds the largest. -/
theorem big_le {n : Nat} (f : Fin n → EReal) (c : EReal) (h : ∀ i, f i ≤ c) : big f ≤ c :=
  Finset.fold_max_le c |>.mpr ⟨bot_le, fun i _ => h i⟩

/-- The largest value does not depend on the order in which the values are listed. -/
theorem big_perm {n : Nat} (f : Fin n → EReal) (σ : Equiv.Perm (Fin n)) : big (fun i => f (σ i)) = big f :=
  le_antisymm (big_le _ _ fun i => le_big f (σ i))
    (big_le _ _ fun i => by simpa using le_big (fun i => f (σ i)) (σ.symm i))

/-- The largest is not minus infinity when one value is not. -/
theorem big_ne_bot {n : Nat} (f : Fin n → EReal) (i : Fin n) (h : f i ≠ ⊥) : big f ≠ ⊥ := fun e =>
  h (le_bot_iff.mp (e ▸ le_big f i))

/-- Among finitely many values the largest is one of them. -/
theorem exists_big {n : Nat} (f : Fin n → EReal) (i : Fin n) : ∃ k, f k = big f := by
  obtain ⟨k, _, hk⟩ := Finset.exists_max_image Finset.univ f ⟨i, Finset.mem_univ i⟩
  exact ⟨k, le_antisymm (le_big f k) (big_le f _ fun j => hk j (Finset.mem_univ j))⟩

/-- The largest of a list cut into four equal parts. -/
theorem big_four (f : Fin 2048 → EReal) :
    max (max (max (max ⊥ (big fun k : Fin 512 => f ⟨k.val, by omega⟩)) (big fun k : Fin 512 => f ⟨512 + k.val, by omega⟩))
      (big fun k : Fin 512 => f ⟨1024 + k.val, by omega⟩)) (big fun k : Fin 512 => f ⟨1536 + k.val, by omega⟩) = big f := by
  apply le_antisymm
  · refine max_le (max_le (max_le (max_le bot_le ?_) ?_) ?_) ?_ <;> exact big_le _ _ fun k => le_big f _
  · refine big_le _ _ fun k => ?_
    by_cases h1 : k.val < 512
    · exact (le_big (fun k : Fin 512 => f ⟨k.val, by omega⟩) ⟨k.val, h1⟩).trans
        ((le_max_right _ _).trans ((le_max_left _ _).trans ((le_max_left _ _).trans (le_max_left _ _))))
    · by_cases h2 : k.val < 1024
      · have e : k = ⟨512 + (k.val - 512), by omega⟩ := Fin.ext (by simp only []; omega)
        exact (le_of_eq (congrArg f e)).trans ((le_big (fun k : Fin 512 => f ⟨512 + k.val, by omega⟩) ⟨k.val - 512, by omega⟩).trans
          ((le_max_right _ _).trans ((le_max_left _ _).trans (le_max_left _ _))))
      · by_cases h3 : k.val < 1536
        · have e : k = ⟨1024 + (k.val - 1024), by omega⟩ := Fin.ext (by simp only []; omega)
          exact (le_of_eq (congrArg f e)).trans ((le_big (fun k : Fin 512 => f ⟨1024 + k.val, by omega⟩) ⟨k.val - 1024, by omega⟩).trans
            ((le_max_right _ _).trans (le_max_left _ _)))
        · have e : k = ⟨1536 + (k.val - 1536), by omega⟩ := Fin.ext (by simp only []; omega)
          exact (le_of_eq (congrArg f e)).trans ((le_big (fun k : Fin 512 => f ⟨1536 + k.val, by omega⟩) ⟨k.val - 1536, by omega⟩).trans
            (le_max_right _ _))

/-- A square is not negative. -/
theorem mul_self_nonneg' (x : EReal) : 0 ≤ x * x := by
  rcases le_total 0 x with h | h
  · exact mul_nonneg h h
  · have h' : 0 ≤ -x := EReal.neg_nonneg.mpr h
    have := mul_nonneg h' h'
    rwa [neg_mul_neg] at this

/-! ## Scores -/

/-- The floor of the sum of squares. -/
def floorC : EReal := Ideal.ofBits .f32 0x2B8CBCCC#32

/-- A row times the inverse square root of its sum of squares, the sum held above the floor. -/
def unit (q : Fin 64 → EReal) (d : Fin 64) : EReal := q d * Ideal.rsqrt (max (∑ k, q k * q k) floorC)

/-- The largest score of row `n` against all keys. -/
def score (Q K : Fin 2048 → Fin 64 → EReal) (n : Fin 2048) : EReal :=
  big fun m : Fin 2048 => ∑ k, unit (Q n) k * unit (K m) k

/-! ## The attention of one row -/

/-- One row's score against key `m`. -/
def logit (q : Fin 64 → EReal) (K : Fin 2048 → Fin 64 → EReal) (m : Fin 2048) : EReal :=
  (∑ k, q k * K m k) * Ideal.ofBits .f32 0x3E000000#32

/-- The unnormalised weight of key `m`. -/
def weight (q : Fin 64 → EReal) (K : Fin 2048 → Fin 64 → EReal) (m : Fin 2048) : EReal :=
  Ideal.exp (logit q K m - big (logit q K))

/-- The attention of a row. -/
def att (q : Fin 64 → EReal) (K V : Fin 2048 → Fin 64 → EReal) (d : Fin 64) : EReal :=
  ∑ m, Ideal.div (weight q K m) (∑ m', weight q K m') * V m d

/-! ## The choice -/

/-- Row `n` comes before row `n'`: a smaller score, or the same score and a smaller row. -/
def prec (M : Fin 2048 → EReal) (n n' : Fin 2048) : Prop := M n < M n' ∨ (M n = M n' ∧ n < n')

/-- No two rows come before each other. -/
theorem prec_asymm (M : Fin 2048 → EReal) (n n' : Fin 2048) (h : prec M n n') (h' : prec M n' n) : False := by
  rcases h with h | ⟨h, l⟩ <;> rcases h' with h' | ⟨h', l'⟩
  · exact lt_asymm h h'
  · exact absurd h (by rw [h']; exact lt_irrefl _)
  · exact absurd h' (by rw [h]; exact lt_irrefl _)
  · exact lt_asymm l l'

/-- Of two different rows one comes before the other. -/
theorem prec_total (M : Fin 2048 → EReal) (n n' : Fin 2048) (h : n ≠ n') : prec M n n' ∨ prec M n' n := by
  rcases lt_trichotomy (M n) (M n') with l | e | l
  · exact Or.inl (Or.inl l)
  · rcases lt_or_gt_of_ne h with l | l
    · exact Or.inl (Or.inr ⟨e, l⟩)
    · exact Or.inr (Or.inr ⟨e.symm, l⟩)
  · exact Or.inr (Or.inl l)

/-- Sixty-four different rows that every other row comes before. -/
structure Top (M : Fin 2048 → EReal) (i : Fin 64 → Fin 2048) : Prop where
  inj : Function.Injective i
  dom : ∀ n, (∀ l, i l ≠ n) → ∀ l, prec M n (i l)

/-- Two such lists have the same rows. -/
theorem Top.unique {M : Fin 2048 → EReal} {i i' : Fin 64 → Fin 2048} (h : Top M i) (h' : Top M i') (l : Fin 64) : ∃ l', i' l' = i l := by
  classical
  by_contra hne
  have hne' : ∀ l', i' l' ≠ i l := fun l' e => hne ⟨l', e⟩
  have hc : (Finset.univ.image i).card = (Finset.univ.image i').card := by
    rw [Finset.card_image_of_injective _ h.inj, Finset.card_image_of_injective _ h'.inj]
  have hx : ∃ k', ∀ k, i k ≠ i' k' := by
    by_contra hall
    have hall' : ∀ k', ∃ k, i k = i' k' := fun k' => by
      by_contra hk
      exact hall ⟨k', fun k e => hk ⟨k, e⟩⟩
    have hsub : Finset.univ.image i' ⊆ Finset.univ.image i := fun x hx => by
      obtain ⟨k', _, rfl⟩ := Finset.mem_image.mp hx
      obtain ⟨k, hk⟩ := hall' k'
      exact Finset.mem_image.mpr ⟨k, Finset.mem_univ k, hk⟩
    have heq := Finset.eq_of_subset_of_card_le hsub (le_of_eq hc)
    have hmem : i l ∈ Finset.univ.image i' := by
      rw [heq]
      exact Finset.mem_image.mpr ⟨l, Finset.mem_univ l, rfl⟩
    obtain ⟨l', _, hl'⟩ := Finset.mem_image.mp hmem
    exact hne' l' hl'
  obtain ⟨k', hk'⟩ := hx
  exact prec_asymm M _ _ (h.dom (i' k') hk' l) (h'.dom (i l) hne' k')

/-- Row `n` is among the sixty-four chosen ones. -/
def Chosen (M : Fin 2048 → EReal) (n : Fin 2048) : Prop := ∃ i, Top M i ∧ ∃ l, i l = n

/-- The chosen rows are exactly those listed by the positions. -/
theorem Top.chosen_iff {M : Fin 2048 → EReal} {i : Fin 64 → Fin 2048} (h : Top M i) (n : Fin 2048) : Chosen M n ↔ ∃ l, i l = n := by
  constructor
  · rintro ⟨i', h', l', rfl⟩
    exact h'.unique h l'
  · intro hl
    exact ⟨i, h, hl⟩

open Classical in
/-- The output of one head: the attention of the row if it is chosen, else zero. -/
def out (Q K V : Fin 2048 → Fin 64 → EReal) (n : Fin 2048) (d : Fin 64) : EReal :=
  if Chosen (score Q K) n then att (Q n) K V d else 0

/-! ## The whole -/

/-- Row and column in the flat array of the entry that head `j` holds at row `n`, column `d`. -/
def hrow (j : Fin 24) (n : Fin 2048) : Fin 4096 := ⟨(2048 * j.val + n.val) / 12, by omega⟩
/-- The column of the flattened array that holds entry `d` of row `n` of head `j`. -/
def hcol (j : Fin 24) (n : Fin 2048) (d : Fin 64) : Fin 768 := ⟨64 * ((2048 * j.val + n.val) % 12) + d.val, by omega⟩

/-- A projection of the flat input, read as heads. -/
def proj (X : Fin 4096 → Fin 768 → EReal) (W : Fin 768 → Fin 768 → EReal) (b : Fin 768 → EReal) (j : Fin 24) (n : Fin 2048) (d : Fin 64) : EReal :=
  (∑ k, X (hrow j n) k * W k (hcol j n d)) + b (hcol j n d)

/-- The heads' outputs as one flat array. -/
def flat (O : Fin 24 → Fin 2048 → Fin 64 → EReal) (t : Fin 4096) (e : Fin 768) : EReal :=
  O ⟨(12 * t.val + e.val / 64) / 2048, by omega⟩ ⟨(12 * t.val + e.val / 64) % 2048, by omega⟩ ⟨e.val % 64, by omega⟩

/-- The last projection. -/
def last (Y : Fin 4096 → Fin 768 → EReal) (W : Fin 768 → Fin 768 → EReal) (b : Fin 768 → EReal) (t : Fin 4096) (c : Fin 768) : EReal :=
  (∑ e, Y t e * W e c) + b c

/-- The layer. -/
def layer (X : Fin 4096 → Fin 768 → EReal) (Wq : Fin 768 → Fin 768 → EReal) (bq : Fin 768 → EReal) (Wk : Fin 768 → Fin 768 → EReal) (bk : Fin 768 → EReal)
    (Wv : Fin 768 → Fin 768 → EReal) (bv : Fin 768 → EReal) (Wo : Fin 768 → Fin 768 → EReal) (bo : Fin 768 → EReal) (t : Fin 4096) (c : Fin 768) : EReal :=
  last (flat fun j => out (proj X Wq bq j) (proj X Wk bk j) (proj X Wv bv j)) Wo bo t c

/-! ## The constants, and why no score is minus infinity -/

/-- The floor under the squared norms is a positive real. -/
theorem floorC_pos : ∃ r : ℝ, 0 < r ∧ floorC = (r : EReal) := by
  refine ⟨_, ?_, by unfold floorC Ideal.ofBits Ideal.ieee; simp; rfl⟩
  positivity

/-- The kernel's scale is one eighth. -/
theorem eighth : Ideal.ofBits .f32 0x3E000000#32 = ((1 / 8 : ℝ) : EReal) := by
  simp [Ideal.ofBits, Ideal.ieee, -EReal.coe_mul]; norm_num

/-- The number the reference takes the root of is sixty-four. -/
theorem sixtyfour : Ideal.ofBits .f32 0x42800000#32 = ((64 : ℝ) : EReal) := by
  simp [Ideal.ofBits, Ideal.ieee, -EReal.coe_mul]; norm_num

/-- The word of minus infinity. -/
theorem minf : Ideal.ofBits .f32 0xFF800000#32 = ⊥ := by
  unfold Ideal.ofBits Ideal.ieee; simp

/-- Dividing by the square root of sixty-four is multiplying by an eighth. -/
theorem div_sqrt (x : EReal) : Ideal.div x (Ideal.sqrt (Ideal.ofBits .f32 0x42800000#32)) = x * Ideal.ofBits .f32 0x3E000000#32 := by
  have h8 : Real.sqrt 64 = 8 := by
    rw [show (64 : ℝ) = 8 ^ 2 by norm_num]; exact Real.sqrt_sq (by norm_num)
  have hs : Ideal.sqrt ((64 : ℝ) : EReal) = ((8 : ℝ) : EReal) := by
    show (if (64 : ℝ) < 0 then (⊥ : EReal) else ((Real.sqrt 64 : ℝ) : EReal)) = _
    rw [if_neg (by norm_num), h8]
  rw [sixtyfour, hs, eighth, Ideal.div_coe (by norm_num)]

/-- A sum of reals is real. -/
theorem sum_real {n : Nat} (f : Fin n → EReal) (h : ∀ k, ∃ r : ℝ, f k = r) : ∃ r : ℝ, ∑ k, f k = r := by
  choose g hg using h
  exact ⟨∑ k, g k, by
    rw [Finset.sum_congr rfl fun k _ => hg k]
    exact (map_sum (⟨⟨Real.toEReal, EReal.coe_zero⟩, EReal.coe_add⟩ : ℝ →+ EReal) g Finset.univ).symm⟩

/-- The normalised row is real, whatever the row. -/
theorem unit_real (q : Fin 64 → EReal) (d : Fin 64) : ∃ r : ℝ, unit q d = r := by
  obtain ⟨c, hc, ec⟩ := floorC_pos
  unfold unit
  rw [ec]
  by_cases h : ∀ k, ∃ r : ℝ, q k = r
  · obtain ⟨s, hs⟩ := sum_real (fun k => q k * q k) fun k => by
      obtain ⟨r, hr⟩ := h k
      exact ⟨r * r, by rw [hr, EReal.coe_mul]⟩
    obtain ⟨r, hr⟩ := h d
    have hm : max ((s : ℝ) : EReal) (c : EReal) = ((max s c : ℝ) : EReal) := (EReal.coe_strictMono.monotone.map_max).symm
    rw [hs, hm, hr]
    have hp : 0 < max s c := lt_max_of_lt_right hc
    have e : Ideal.rsqrt ((max s c : ℝ) : EReal) = (((Real.sqrt (max s c))⁻¹ : ℝ) : EReal) := by
      show (if max s c < 0 then (⊥ : EReal) else if max s c = 0 then ⊤ else (((Real.sqrt (max s c))⁻¹ : ℝ) : EReal)) = _
      rw [if_neg (not_lt.mpr hp.le), if_neg hp.ne']
    exact ⟨r * (Real.sqrt (max s c))⁻¹, by rw [e, EReal.coe_mul]⟩
  · obtain ⟨k, hk⟩ := not_forall.mp h
    have hsq : ∀ k, (0 : EReal) ≤ q k * q k := fun k => mul_self_nonneg' (q k)
    have htop : q k * q k = ⊤ := by
      induction hq : q k using EReal.rec with
      | bot => exact EReal.bot_mul_bot
      | top => exact EReal.top_mul_top
      | coe r => exact absurd ⟨r, hq⟩ hk
    have hsum : ∑ k, q k * q k = ⊤ := top_le_iff.mp (htop ▸ Finset.single_le_sum (fun k _ => hsq k) (Finset.mem_univ k))
    rw [hsum, max_eq_left le_top]
    exact ⟨0, by show q d * (0 : EReal) = _; rw [mul_zero]; rfl⟩

/-- No score is minus infinity. -/
theorem score_ne_bot (Q K : Fin 2048 → Fin 64 → EReal) (n : Fin 2048) : score Q K n ≠ ⊥ := by
  refine big_ne_bot _ 0 ?_
  obtain ⟨r, hr⟩ := sum_real (fun k => unit (Q n) k * unit (K 0) k) fun k => by
    obtain ⟨a, ha⟩ := unit_real (Q n) k
    obtain ⟨b, hb⟩ := unit_real (K 0) k
    exact ⟨a * b, by rw [ha, hb, EReal.coe_mul]⟩
  rw [hr]
  exact EReal.coe_ne_bot r

end Cert.Spec

end
-- ==== Proof.Choice.lean ====
/- One round of the choice on one head: the largest remaining score, of equal ones the largest row, is struck out; after sixty-four
   rounds the rows struck out are the sixty-four that every other row comes before. -/
module

public import proofs.«01_k».proof.Proof.Spec
public import Idealize.ShloMosaic.Lib.SortNet.Extract

@[expose] public section

noncomputable section

namespace Cert.Spec

open Idealize.ShloMosaic

/-- The signed maximum of finitely many words is the word that no other exceeds. -/
theorem maxsi_fold {n : Nat} (c x : BitVec 32) (f : Fin n → BitVec 32) (k : Fin n) (hk : f k = x) (hc : c.toInt ≤ x.toInt)
    (hle : ∀ i, (f i).toInt ≤ x.toInt) : Finset.univ.fold IntOp.maxsi c f = x := by
  have e : (Finset.univ.fold IntOp.maxsi c f).toInt = Finset.univ.fold max c.toInt fun i => (f i).toInt :=
    (Finset.fold_hom (m := BitVec.toInt) fun a b => Idealize.ShloMosaic.SortNet.toInt_maxsi a b).symm
  apply BitVec.eq_of_toInt_eq
  rw [e]
  apply le_antisymm
  · exact Finset.fold_max_le _ |>.mpr ⟨hc, fun i _ => hle i⟩
  · exact Finset.le_fold_max _ |>.mpr (Or.inr ⟨k, Finset.mem_univ k, by rw [hk]⟩)

/-- The signed value of a row's word is the row. -/
theorem toInt_row (n : Fin 2048) : (BitVec.ofNat 32 n.val).toInt = n.val := by
  rw [BitVec.toInt_eq_toNat_of_lt (by rw [BitVec.toNat_ofNat]; omega), BitVec.toNat_ofNat]
  omega

/-- Two rows with the same word are the same row. -/
theorem ofNat_row_inj (n n' : Fin 2048) : BitVec.ofNat 32 n.val = BitVec.ofNat 32 n'.val ↔ n = n' := by
  constructor
  · intro h
    have := congrArg BitVec.toInt h
    rw [toInt_row, toInt_row] at this
    exact Fin.ext (by exact_mod_cast this)
  · rintro rfl; rfl

/-- What the first `k` rounds leave: `k` different rows, each after every row not struck out, whose scores are struck out
    and whose words are the first `k` entries. -/
def Inv (M : Fin 2048 → EReal) (s : Fin 2048 → Fin 2048) (k : Nat) (v : Fin 2048 → EReal) (a : Fin 64 → BitVec 32) : Prop :=
  ∃ i : Nat → Fin 2048, (∀ l < k, ∀ l' < k, i l = i l' → l = l') ∧ (∀ n, (∀ l < k, i l ≠ n) → ∀ l < k, prec M n (i l)) ∧
    (∀ p, (∃ l < k, i l = s p) → v p = ⊥) ∧ (∀ p, (∀ l < k, i l ≠ s p) → v p = M (s p)) ∧
    ∀ l : Fin 64, l.val < k → a l = BitVec.ofNat 32 (i l.val).val

/-- The word one round chooses. -/
def pickWord (tab : Fin 2048 → BitVec 32) (v : Fin 2048 → EReal) : BitVec 32 :=
  Finset.univ.fold IntOp.maxsi 2147483648#32 fun p => if v p = big v then tab p else 4294967295#32

/-- The last of the rows not struck out. -/
theorem exists_last (M : Fin 2048 → EReal) (U : Finset (Fin 2048)) (hU : U.Nonempty) : ∃ y ∈ U, ∀ n ∈ U, n ≠ y → prec M n y := by
  obtain ⟨z, hz, hmax⟩ := Finset.exists_max_image U M hU
  obtain ⟨y, hy, hlast⟩ := Finset.exists_max_image (U.filter fun n => M n = M z) id ⟨z, Finset.mem_filter.mpr ⟨hz, rfl⟩⟩
  obtain ⟨hyU, hyM⟩ := Finset.mem_filter.mp hy
  refine ⟨y, hyU, fun n hn hne => ?_⟩
  rcases lt_or_eq_of_le (hmax n hn) with l | e
  · exact Or.inl (hyM ▸ l)
  · exact Or.inr ⟨e.trans hyM.symm, lt_of_le_of_ne (hlast n (Finset.mem_filter.mpr ⟨hn, e⟩)) hne⟩

/-- One round takes what `k` rounds leave to what `k + 1` rounds leave. -/
theorem Inv.step {M : Fin 2048 → EReal} {σ : Equiv.Perm (Fin 2048)} {k : Nat} {v : Fin 2048 → EReal} {a : Fin 64 → BitVec 32}
    (h : Inv M σ k v a) (hk : k < 64) (hM : ∀ n, M n ≠ ⊥) (tab : Fin 2048 → BitVec 32) (htab : ∀ p, tab p = BitVec.ofNat 32 (σ p).val)
    (v' : Fin 2048 → EReal) (hv' : ∀ p, v' p = if tab p = pickWord tab v then ⊥ else v p)
    (a' : Fin 64 → BitVec 32) (ha' : ∀ l : Fin 64, a' l = if l.val = k then pickWord tab v else a l) : Inv M σ (k + 1) v' a' := by
  classical
  obtain ⟨i, hinj, hdom, hbot, hval, hword⟩ := h
  have hU : ((Finset.univ : Finset (Fin 2048)) \ (Finset.range k).image i).Nonempty := by
    rw [← Finset.card_pos, Finset.card_sdiff_of_subset (Finset.subset_univ _), Finset.card_fin]
    have := Finset.card_image_le (s := Finset.range k) (f := i)
    rw [Finset.card_range] at this
    omega
  obtain ⟨y, hy, hlast⟩ := exists_last M _ hU
  have hfree : ∀ n, n ∈ (Finset.univ : Finset (Fin 2048)) \ (Finset.range k).image i ↔ ∀ l < k, i l ≠ n := fun n => by
    rw [Finset.mem_sdiff, Finset.mem_image]
    constructor
    · rintro ⟨_, hn⟩ l hl e
      exact hn ⟨l, Finset.mem_range.mpr hl, e⟩
    · intro hn
      refine ⟨Finset.mem_univ n, ?_⟩
      rintro ⟨l, hl, e⟩
      exact hn l (Finset.mem_range.mp hl) e
  have hyf := (hfree y).mp hy
  have hle : ∀ n, (∀ l < k, i l ≠ n) → n ≠ y → prec M n y := fun n hn => hlast n ((hfree n).mpr hn)
  have hvy : v (σ.symm y) = M y := by
    rw [hval (σ.symm y) (by simpa using hyf)]; simp
  have hcases : ∀ p, (v p = ⊥ ∧ ∃ l < k, i l = σ p) ∨ (v p = M (σ p) ∧ ∀ l < k, i l ≠ σ p) := fun p => by
    by_cases c : ∃ l < k, i l = σ p
    · exact Or.inl ⟨hbot p c, c⟩
    · have c' : ∀ l < k, i l ≠ σ p := fun l hl e => c ⟨l, hl, e⟩
      exact Or.inr ⟨hval p c', c'⟩
  have hbig : big v = M y := by
    apply le_antisymm
    · refine big_le _ _ fun p => ?_
      rcases hcases p with ⟨e, _⟩ | ⟨e, hp⟩
      · rw [e]; exact bot_le
      · rw [e]
        by_cases c : σ p = y
        · rw [c]
        · rcases hle _ hp c with l | ⟨l, _⟩
          · exact l.le
          · exact l.le
    · rw [← hvy]; exact le_big v _
  have hpick : pickWord tab v = BitVec.ofNat 32 y.val := by
    refine maxsi_fold _ _ _ (σ.symm y) ?_ ?_ ?_
    · rw [if_pos (by rw [hvy, hbig]), htab]; simp
    · rw [toInt_row]; have : (2147483648#32 : BitVec 32).toInt = -2147483648 := by decide
      rw [this]; omega
    · intro p
      rw [toInt_row]
      by_cases c : v p = big v
      · rw [if_pos c, htab, toInt_row]
        rw [hbig] at c
        rcases hcases p with ⟨e, _⟩ | ⟨e, hp⟩
        · exact absurd (c.symm.trans e) (hM y)
        · by_cases cy : σ p = y
          · rw [cy]
          · rcases hle _ hp cy with l | ⟨_, l⟩
            · exact absurd (e.symm.trans c) l.ne
            · exact_mod_cast l.le
      · rw [if_neg c]
        have : (4294967295#32 : BitVec 32).toInt = -1 := by decide
        rw [this]; omega
  refine ⟨fun l => if l < k then i l else y, ?_, ?_, ?_, ?_, ?_⟩
  · intro l hl l' hl' e
    dsimp only at e
    by_cases c : l < k <;> by_cases c' : l' < k
    · rw [if_pos c, if_pos c'] at e; exact hinj l c l' c' e
    · rw [if_pos c, if_neg c'] at e; exact absurd e (hyf l c)
    · rw [if_neg c, if_pos c'] at e; exact absurd e.symm (hyf l' c')
    · omega
  · intro n hn l hl
    have hnk : ∀ l < k, i l ≠ n := fun l' hl' => by
      have := hn l' (by omega); dsimp only at this; rwa [if_pos hl'] at this
    have hny : n ≠ y := fun e => by
      have := hn k (by omega); dsimp only at this; rw [if_neg (lt_irrefl k)] at this; exact this e.symm
    dsimp only
    by_cases c : l < k
    · rw [if_pos c]; exact hdom n hnk l c
    · rw [if_neg c]; exact hle n hnk hny
  · rintro p ⟨l, hl, e⟩
    dsimp only at e
    rw [hv', hpick, htab]
    by_cases c : l < k
    · rw [if_pos c] at e
      by_cases cy : BitVec.ofNat 32 (σ p).val = BitVec.ofNat 32 y.val
      · rw [if_pos cy]
      · rw [if_neg cy]; exact hbot p ⟨l, c, e⟩
    · rw [if_neg c] at e
      rw [if_pos (by rw [e])]
  · intro p hp
    have hnk : ∀ l < k, i l ≠ σ p := fun l' hl' => by
      have := hp l' (by omega); dsimp only at this; rwa [if_pos hl'] at this
    have hny : σ p ≠ y := fun e => by
      have := hp k (by omega); dsimp only at this; rw [if_neg (lt_irrefl k)] at this; exact this e.symm
    rw [hv', hpick, htab, if_neg fun e => hny ((ofNat_row_inj _ _).mp e)]
    exact hval p hnk
  · intro l hl
    dsimp only
    rw [ha']
    by_cases c : l.val = k
    · rw [if_pos c, hpick, if_neg (by omega)]
    · rw [if_neg c, if_pos (by omega)]; exact hword l (by omega)

/-- Before the first round nothing is struck out. -/
theorem Inv.zero (M : Fin 2048 → EReal) (s : Fin 2048 → Fin 2048) (v : Fin 2048 → EReal) (hv : ∀ p, v p = M (s p)) (a : Fin 64 → BitVec 32) :
    Inv M s 0 v a :=
  ⟨fun _ => 0, fun l hl => absurd hl (Nat.not_lt_zero l), fun _ _ l hl => absurd hl (Nat.not_lt_zero l),
    fun p ⟨l, hl, _⟩ => absurd hl (Nat.not_lt_zero l), fun p _ => hv p, fun l hl => absurd hl (Nat.not_lt_zero _)⟩

/-- After sixty-four rounds the rows struck out are the chosen ones. -/
theorem Inv.top {M : Fin 2048 → EReal} {s : Fin 2048 → Fin 2048} {n : Nat} {v : Fin 2048 → EReal} {a : Fin 64 → BitVec 32} (h : Inv M s n v a) (hn : n = 64) :
    ∃ i, Top M i ∧ ∀ l, a l = BitVec.ofNat 32 (i l).val := by
  subst hn
  obtain ⟨i, hinj, hdom, _, _, hword⟩ := h
  exact ⟨fun l => i l.val, ⟨fun l l' e => Fin.ext (hinj l.val l.isLt l'.val l'.isLt e),
    fun n hn l => hdom n (fun l' hl' => hn ⟨l', hl'⟩) l.val l.isLt⟩, fun l => hword l l.isLt⟩

/-- A property that every step of a counted loop carries on holds at the end. -/
theorem foldl_inv {α : Type} : ∀ (n : Nat) (g : Fin n → α → α) (P : Nat → α → Prop) (x : α), P 0 x →
    (∀ (k : Fin n) y, P k.val y → P (k.val + 1) (g k y)) → P n ((List.finRange n).foldl (fun acc k => g k acc) x)
  | 0, _, _, _, h0, _ => h0
  | n + 1, g, P, x, h0, hs => by
    rw [List.finRange_succ_last, List.foldl_append, List.foldl_map]
    exact hs (Fin.last n) _ (foldl_inv n (fun k => g k.castSucc) P x h0 fun k y hy => hs k.castSucc y hy)

end Cert.Spec

end
-- ==== Proof.HeadValue.lean ====
/- One head of the second body, read at an index: the attention of the row if it is chosen, else zero. -/
module

public import proofs.«01_k».proof.Proof.KernelIdealBody
public import proofs.«01_k».proof.Proof.Choice
public import Idealize.ShloMosaic.Lib.Pointwise

@[expose] public section

set_option maxRecDepth 16384

noncomputable section

namespace Cert.KernelIdeal.Value

open Cert.KernelIdeal.Gen Cert.KernelIdeal.Run Cert.Spec
open Idealize.ShloMosaic Idealize.ShloMosaic.TcCoe Idealize.SL.Sem

/-- The comparison of two words as a number: one if they are equal, else zero. -/
theorem hot_eq (x y : BitVec 32) :
    (FloatOps.sitofp (F := Ideal) FTy.f32 (BitVec.setWidth 32 (IntOp.cmpi CmpIPredicate.eq x y)) : EReal) = if x = y then 1 else 0 := by
  by_cases h : x = y
  · subst h
    rw [if_pos rfl]
    have e : BitVec.setWidth 32 (IntOp.cmpi CmpIPredicate.eq x x) = 1#32 := by simp [IntOp.cmpi]
    rw [e]
    show (((1#32 : BitVec 32).toInt : ℝ) : EReal) = 1
    have : (1#32 : BitVec 32).toInt = 1 := by decide
    rw [this]; norm_num
  · rw [if_neg h]
    have hb : (x == y) = false := beq_eq_false_iff_ne.mpr h
    have e : BitVec.setWidth 32 (IntOp.cmpi CmpIPredicate.eq x y) = 0#32 := by simp [IntOp.cmpi, hb]
    rw [e]
    show (((0#32 : BitVec 32).toInt : ℝ) : EReal) = 0
    have : (0#32 : BitVec 32).toInt = 0 := by decide
    rw [this]; norm_num

/-- A sum over slots of the row that one word names is that row's entry. -/
theorem hot_sum (σ : Equiv.Perm (Fin 2048)) (n : Fin 2048) (f : Fin 2048 → EReal) :
    ∑ p, (if BitVec.ofNat 32 n.val = BitVec.ofNat 32 (σ p).val then (1 : EReal) else 0) * f (σ p) = f n := by
  rw [Finset.sum_eq_single (σ.symm n)]
  · rw [Equiv.apply_symm_apply, if_pos rfl, one_mul]
  · intro p _ hp
    rw [if_neg fun e => hp ?_, zero_mul]
    rw [(ofNat_row_inj _ _).mp e, Equiv.symm_apply_apply]
  · intro h; exact absurd (Finset.mem_univ _) h

/-- The attention of a row, the keys listed in any order. -/
theorem att_perm (σ : Equiv.Perm (Fin 2048)) (q : Fin 64 → EReal) (K V : Fin 2048 → Fin 64 → EReal) (d : Fin 64) :
    ∑ p, Ideal.div (Ideal.exp (logit q K (σ p) - big fun p' => logit q K (σ p'))) (∑ p'', Ideal.exp (logit q K (σ p'') - big fun p' => logit q K (σ p'))) * V (σ p) d
      = att q K V d := by
  rw [big_perm (logit q K) σ]
  have e : ∑ p'', Ideal.exp (logit q K (σ p'') - big (logit q K)) = ∑ m, weight q K m := Equiv.sum_comp σ (weight q K)
  rw [e]
  exact Equiv.sum_comp σ fun m => Ideal.div (weight q K m) (∑ m', weight q K m') * V m d

/-- The rows put back: a sum over the chosen rows of the one that is row `n`. -/
theorem back_sum (i : Fin 64 → Fin 2048) (hi : Function.Injective i) (n : Fin 2048) (f : Fin 2048 → EReal) [Decidable (∃ l, i l = n)] :
    ∑ l, (if BitVec.ofNat 32 n.val = BitVec.ofNat 32 (i l).val then (1 : EReal) else 0) * f (i l) = if ∃ l, i l = n then f n else 0 := by
  by_cases h : ∃ l, i l = n
  · rw [if_pos h]
    obtain ⟨l, rfl⟩ := h
    rw [Finset.sum_eq_single l]
    · rw [if_pos rfl, one_mul]
    · intro l' _ hl
      rw [if_neg fun e => hl (hi ((ofNat_row_inj _ _).mp e).symm), zero_mul]
    · intro h; exact absurd (Finset.mem_univ _) h
  · rw [if_neg h]
    refine Finset.sum_eq_zero fun l _ => ?_
    rw [if_neg fun e => h ⟨l, ((ofNat_row_inj _ _).mp e).symm⟩, zero_mul]

/-- A head's output at slot `p`: the attention of row `σ p` if that row is among the chosen ones, else zero. -/
theorem head_at (Q K V : FVec Ideal S1x2048x64 .bf16) (row : IVec S1x64 32) (tr : IVec S1x2048 32) (tc : IVec S2048x1 32)
    (σ : Equiv.Perm (Fin 2048)) (q k v : Fin 2048 → Fin 64 → EReal) (i : Fin 64 → Fin 2048)
    (hQ : ∀ p d, Q (ix3 0 p d) = q (σ p) d) (hK : ∀ p d, K (ix3 0 p d) = k (σ p) d) (hV : ∀ p d, V (ix3 0 p d) = v (σ p) d)
    (hrow : ∀ l, row (ix2 0 l) = BitVec.ofNat 32 (i l).val) (htr : ∀ p, tr (ix2 0 p) = BitVec.ofNat 32 (σ p).val)
    (htc : ∀ p, tc (ix2 p 0) = BitVec.ofNat 32 (σ p).val) (hi : Top (score q k) i) (p : Fin 2048) (d : Fin 64) :
    head (F := Ideal) Q K V row tr tc (ix2 p d) = out q k v (σ p) d := by
  classical
  pointwise [head, k1_pay22, k1_pay8, hQ, hK, hV, hrow, htr, htc, hot_eq, minf]
  have hs : ∀ (l : Fin 64) (c : Fin 64), ∑ x, (if BitVec.ofNat 32 (i l).val = BitVec.ofNat 32 (σ x).val then (1 : EReal) else 0) * q (σ x) c = q (i l) c :=
    fun l c => hot_sum σ (i l) fun n => q n c
  let S : Fin 64 → Fin 64 → EReal := fun l c => ∑ x : Fin 2048, (if BitVec.ofNat 32 (i l).val = BitVec.ofNat 32 (σ x).val then (1 : EReal) else 0) * q (σ x) c
  have hS : ∀ l, S l = q (i l) := fun l => funext (hs l)
  change (∑ l : Fin 64, (if BitVec.ofNat 32 (σ p).val = BitVec.ofNat 32 (i l).val then (1 : EReal) else 0) *
    ∑ m : Fin 2048, Ideal.div (Ideal.exp (logit (S l) k (σ m) - big fun m' : Fin 2048 => logit (S l) k (σ m')))
      (∑ m'' : Fin 2048, Ideal.exp (logit (S l) k (σ m'') - big fun m' : Fin 2048 => logit (S l) k (σ m'))) * v (σ m) d) = _
  simp only [hS, att_perm]
  refine (back_sum i hi.inj (σ p) fun n => att (q n) k v d).trans ?_
  unfold out
  exact if_congr (hi.chosen_iff (σ p)).symm rfl rfl

/-- Row `c` of the chosen positions. -/
theorem pick_at (idx : IVec S24x64 32) (i : Fin 24 → Fin 64 → Fin 2048) (hidx : ∀ j l, idx (ix2 j l) = BitVec.ofNat 32 (i j l).val)
    (c : BitVec 32) (j : Fin 24) (hc : c = BitVec.ofNat 32 j.val) (l : Fin 64) :
    pick (F := Ideal) c idx (ix2 0 l) = BitVec.ofNat 32 (i j l).val := by
  have e : ∀ x : Fin 24, (BitVec.ofNat 32 x.val = c) ↔ x = j := fun x => by
    rw [hc]
    constructor
    · intro h
      have := congrArg BitVec.toNat h
      rw [BitVec.toNat_ofNat, BitVec.toNat_ofNat] at this
      exact Fin.ext (by omega)
    · rintro rfl; rfl
  have hsel : ∀ x : Fin 24, Scalar.select (IntOp.cmpi CmpIPredicate.eq (BitVec.ofNat 32 x.val) c) (idx (ix2 x l)) 4294967295#32 =
      if x = j then BitVec.ofNat 32 (i j l).val else 4294967295#32 := fun x => by
    by_cases h : x = j
    · subst h
      simp [hc, Scalar.select, IntOp.cmpi, hidx]
    · have hb : (BitVec.ofNat 32 x.val == c) = false := beq_eq_false_iff_ne.mpr fun h' => h ((e x).mp h')
      simp [h, hb, Scalar.select, IntOp.cmpi]
  pointwise [pick]
  refine maxsi_fold _ _ _ j ?_ ?_ ?_
  · rw [hsel, if_pos rfl]
  · rw [toInt_row]; have : (2147483648#32 : BitVec 32).toInt = -2147483648 := by decide
    rw [this]; omega
  · intro x
    rw [hsel, toInt_row]
    by_cases h : x = j
    · rw [if_pos h, toInt_row]
    · rw [if_neg h]
      have : (4294967295#32 : BitVec 32).toInt = -1 := by decide
      rw [this]; omega

/-- The first projections at an index. -/
theorem lin_at (x : FVec Ideal S512x768 .f32) (w : FVec Ideal S768x768 .f32) (b : FVec Ideal S1x768 .f32) (t : Fin 512) (c : Fin 768) :
    lin (F := Ideal) x w b (ix2 t c) = (∑ k, x (ix2 t k) * w (ix2 k c)) + b (ix2 0 c) := by
  pointwise [lin, k0_pay3, k0_pay2]

/-- The last projection at an index. -/
theorem linP_at (x : FVec Ideal S512x768 .f32) (w : FVec Ideal S768x768 .f32) (b : FVec Ideal S1x768 .f32) (t : Fin 512) (c : Fin 768) :
    linP (F := Ideal) x w b (ix2 t c) = (∑ k, x (ix2 t k) * w (ix2 k c)) + b (ix2 0 c) := by
  pointwise [linP]

/-- A page holds the slice. -/
theorem page_at (a : FVec Ideal S2048x64 .f32) (p : Fin 2048) (d : Fin 64) : page (F := Ideal) a (ix3 0 p d) = a (ix2 p d) := by
  pointwise [page, k0_pay17]

/-- A normalised slice at an index. -/
theorem nrm_at (a : FVec Ideal S2048x64 .f32) (p : Fin 2048) (d : Fin 64) : nrm (F := Ideal) a (ix2 p d) = unit (fun d => a (ix2 p d)) d := by
  pointwise [nrm, k0_pay20]
  rfl

/-- The largest scores of a slice: slot `p` holds the largest score of row `σ p`. -/
theorem colMax_at (a b : FVec Ideal S2048x64 .f32) (σ : Equiv.Perm (Fin 2048)) (q k : Fin 2048 → Fin 64 → EReal)
    (hb : ∀ p d, b (ix2 p d) = q (σ p) d) (ha : ∀ p d, a (ix2 p d) = k (σ p) d) (p : Fin 2048) :
    colMax (F := Ideal) (nrm a) (nrm b) (ix3 0 0 p) = score q k (σ p) := by
  have hn : ∀ p d, nrm (F := Ideal) a (ix2 p d) = unit (k (σ p)) d := fun p d => by
    rw [nrm_at]; exact congrArg (fun f => unit f d) (funext fun d => ha p d)
  have hm : ∀ p d, nrm (F := Ideal) b (ix2 p d) = unit (q (σ p)) d := fun p d => by
    rw [nrm_at]; exact congrArg (fun f => unit f d) (funext fun d => hb p d)
  pointwise [colMax, chunk0, chunk1, chunk2, chunk3, hn, hm, minf]
  refine (big_four fun p' => ∑ c, unit (k (σ p')) c * unit (q (σ p)) c).trans ?_
  refine (big_perm (fun m => ∑ c, unit (k m) c * unit (q (σ p)) c) σ).trans ?_
  exact congrArg big (funext fun m => Finset.sum_congr rfl fun c _ => mul_comm _ _)

end Cert.KernelIdeal.Value

end
-- ==== Proof.PagesValue.lean ====
/- The stacked pages and the rows of largest scores, read at an index, from the projected block's entries. -/
module

public import proofs.«01_k».proof.Proof.StackValue
public import proofs.«01_k».proof.Proof.HeadValue
public import proofs.«01_k».proof.Proof.KernelIdealStage1
public import proofs.«01_k».proof.Proof.Spec
public import Idealize.ShloMosaic.Lib.Pipeline.ValueKit

@[expose] public section

set_option maxRecDepth 16384

noncomputable section

namespace Cert.KernelIdeal.Value

open Idealize.ShloMosaic Idealize.ShloMosaic.TcCoe
open Cert.KernelIdeal Cert.KernelIdeal.Run Cert.Slots Cert.Spec

/-- The head number of slice `r` at grid point `g`. -/
def hd (g : Fin 8) (r : Fin 3) : Fin 24 := ⟨3 * g.val + r.val, by omega⟩

/-- Row `t` of block `g`. -/
def brow (g : Fin 8) (t : Fin 512) : Fin 4096 := ⟨512 * g.val + t.val, by omega⟩

/-- Block `g` of the array `R`, as a function of plain numbers. -/
def ext (R : Fin 4096 → Fin 768 → EReal) (g : Fin 8) (t e : Nat) : EReal :=
  if h : t < 512 ∧ e < 768 then R (brow g ⟨t, h.1⟩) ⟨e, h.2⟩ else 0

/-- A head's entry in the array, from its place in the block. -/
theorem ext_eq (R : Fin 4096 → Fin 768 → EReal) (g : Fin 8) (r : Fin 3) (n : Fin 2048) (d : Fin 64) :
    ext R g ((2048 * r.val + n.val) / 12) (64 * ((2048 * r.val + n.val) % 12) + d.val) = R (hrow (hd g r) n) (hcol (hd g r) n d) := by
  unfold ext
  rw [dif_pos (⟨by omega, by omega⟩ : (2048 * r.val + n.val) / 12 < 512 ∧ 64 * ((2048 * r.val + n.val) % 12) + d.val < 768)]
  congr 1
  · congr 1
    apply Fin.ext
    show 512 * g.val + (2048 * r.val + n.val) / 12 = (2048 * (3 * g.val + r.val) + n.val) / 12
    omega
  · apply Fin.ext
    show 64 * ((2048 * r.val + n.val) % 12) + d.val = 64 * ((2048 * (3 * g.val + r.val) + n.val) % 12) + d.val
    omega

variable (A : FVec Ideal S512x768 .f32) (R : Fin 4096 → Fin 768 → EReal) (g : Fin 8)

/-- Slice 0 of a stacked block holds head `3 g`, its rows in the order of the slots. -/
theorem stk0_head (hA : ∀ t e, A (ix2 t e) = R (brow g t) e) (p : Fin 2048) (d : Fin 64) :
    stk0 (F := Ideal) A (ix2 p d) = R (hrow (hd g 0) (slot 0 p)) (hcol (hd g 0) (slot 0 p) d) := by
  refine (stk0_at A (ext R g) (fun t e => ?_) p d).trans (ext_eq R g 0 (slot 0 p) d)
  unfold ext; rw [dif_pos ⟨t.isLt, e.isLt⟩]; exact hA t e
/-- Slice 1 of a stacked block holds head `3 g + 1`, its rows in the order of the slots. -/
theorem stk1_head (hA : ∀ t e, A (ix2 t e) = R (brow g t) e) (p : Fin 2048) (d : Fin 64) :
    stk1 (F := Ideal) A (ix2 p d) = R (hrow (hd g 1) (slot 1 p)) (hcol (hd g 1) (slot 1 p) d) := by
  refine (stk1_at A (ext R g) (fun t e => ?_) p d).trans (ext_eq R g 1 (slot 1 p) d)
  unfold ext; rw [dif_pos ⟨t.isLt, e.isLt⟩]; exact hA t e
/-- Slice 2 of a stacked block holds head `3 g + 2`, its rows in the order of the slots. -/
theorem stk2_head (hA : ∀ t e, A (ix2 t e) = R (brow g t) e) (p : Fin 2048) (d : Fin 64) :
    stk2 (F := Ideal) A (ix2 p d) = R (hrow (hd g 2) (slot 2 p)) (hcol (hd g 2) (slot 2 p) d) := by
  refine (stk2_at A (ext R g) (fun t e => ?_) p d).trans (ext_eq R g 2 (slot 2 p) d)
  unfold ext; rw [dif_pos ⟨t.isLt, e.isLt⟩]; exact hA t e

/-- An index of one page, from its coordinates. -/
theorem at_row (x : S1x2048x64.Idx) (p : Fin 2048) (d : Fin 64) (h1 : (x 1 : ℕ) = p.val) (h2 : (x 2 : ℕ) = d.val) : x = ix3 0 p d := by
  blk_ext
/-- An index of one row, from its coordinate. -/
theorem at_col (x : S1x1x2048.Idx) (p : Fin 2048) (h2 : (x 2 : ℕ) = p.val) : x = ix3 0 0 p := by
  blk_ext

/-- The three pages hold the three heads' entries, in the order of the slots. -/
theorem pages_head (hA : ∀ t e, A (ix2 t e) = R (brow g t) e) (r : Fin 3) (p : Fin 2048) (d : Fin 64) :
    pages (F := Ideal) A (ix3 r p d) = R (hrow (hd g r) (slot r p)) (hcol (hd g r) (slot r p) d) := by
  unfold pages
  canon_tiles x h
  case piece0 =>
    have e0 : r.val = 2 + (x 0 : ℕ) := h0
    obtain rfl : r = 2 := Fin.ext (by show r.val = 2; omega)
    rw [at_row x p d h1.symm h2.symm]
    exact (page_at _ p d).trans (stk2_head A R g hA p d)
  case piece1 =>
    have e0 : r.val = 1 + (x 0 : ℕ) := h0
    obtain rfl : r = 1 := Fin.ext (by show r.val = 1; omega)
    rw [at_row x p d h1.symm h2.symm]
    exact (page_at _ p d).trans (stk1_head A R g hA p d)
  case piece2 =>
    have e0 : r.val = (x 0 : ℕ) := h0
    obtain rfl : r = 0 := Fin.ext (by show r.val = 0; omega)
    rw [at_row x p d h1.symm h2.symm]
    exact (page_at _ p d).trans (stk0_head A R g hA p d)

/-- The three rows hold the three heads' scores, in the order of the slots. -/
theorem rows_head (B : FVec Ideal S512x768 .f32) (T : Fin 4096 → Fin 768 → EReal)
    (hA : ∀ t e, A (ix2 t e) = R (brow g t) e) (hB : ∀ t e, B (ix2 t e) = T (brow g t) e) (r : Fin 3) (p : Fin 2048) :
    rows (F := Ideal) A B (ix3 r 0 p) = score (fun n d => R (hrow (hd g r) n) (hcol (hd g r) n d)) (fun n d => T (hrow (hd g r) n) (hcol (hd g r) n d)) (slot r p) := by
  unfold rows
  canon_tiles x h
  case piece0 =>
    have e0 : r.val = 2 + (x 0 : ℕ) := h0
    obtain rfl : r = 2 := Fin.ext (by show r.val = 2; omega)
    rw [at_col x p h2.symm]
    exact colMax_at _ _ (slot 2) (fun n d => R (hrow (hd g 2) n) (hcol (hd g 2) n d)) (fun n d => T (hrow (hd g 2) n) (hcol (hd g 2) n d)) (stk2_head A R g hA) (stk2_head B T g hB) p
  case piece1 =>
    have e0 : r.val = 1 + (x 0 : ℕ) := h0
    obtain rfl : r = 1 := Fin.ext (by show r.val = 1; omega)
    rw [at_col x p h2.symm]
    exact colMax_at _ _ (slot 1) (fun n d => R (hrow (hd g 1) n) (hcol (hd g 1) n d)) (fun n d => T (hrow (hd g 1) n) (hcol (hd g 1) n d)) (stk1_head A R g hA) (stk1_head B T g hB) p
  case piece2 =>
    have e0 : r.val = (x 0 : ℕ) := h0
    obtain rfl : r = 0 := Fin.ext (by show r.val = 0; omega)
    rw [at_col x p h2.symm]
    exact colMax_at _ _ (slot 0) (fun n d => R (hrow (hd g 0) n) (hcol (hd g 0) n d)) (fun n d => T (hrow (hd g 0) n) (hcol (hd g 0) n d)) (stk0_head A R g hA) (stk0_head B T g hB) p

/-- The slice of a head is its remainder by three. -/
theorem sl_hd (r : Fin 3) : sl (hd g r) = r := by
  apply Fin.ext
  show (3 * g.val + r.val) % 3 = r.val
  omega

/-- The pages of block `g`, read at a place of the whole array. -/
theorem pages_place (hA : ∀ t e, A (ix2 t e) = R (brow g t) e) (i : S24x2048x64.Idx) (y : S3x2048x64.Idx)
    (h0 : (i 0 : ℕ) = 3 * g.val + (y 0 : ℕ)) (h1 : (i 1 : ℕ) = (y 1 : ℕ)) (h2 : (i 2 : ℕ) = (y 2 : ℕ)) :
    pages (F := Ideal) A y = R (hrow (i 0) (slot (sl (i 0)) (i 1))) (hcol (i 0) (slot (sl (i 0)) (i 1)) (i 2)) := by
  obtain ⟨r, p, d, rfl⟩ : ∃ (r : Fin 3) (p : Fin 2048) (d : Fin 64), y = ix3 r p d := ⟨y 0, y 1, y 2, by blk_ext⟩
  have hi : i = ix3 (hd g r) p d := by
    have h0' : (i 0 : ℕ) = 3 * g.val + r.val := h0
    have h1' : (i 1 : ℕ) = p.val := h1
    have h2' : (i 2 : ℕ) = d.val := h2
    unfold hd
    blk_ext
  subst hi
  refine (pages_head A R g hA r p d).trans ?_
  show _ = R (hrow (hd g r) (slot (sl (hd g r)) p)) (hcol (hd g r) (slot (sl (hd g r)) p) d)
  rw [sl_hd]

/-- The rows of scores of block `g`, read at a place of the whole array. -/
theorem rows_place (B : FVec Ideal S512x768 .f32) (T : Fin 4096 → Fin 768 → EReal)
    (hA : ∀ t e, A (ix2 t e) = R (brow g t) e) (hB : ∀ t e, B (ix2 t e) = T (brow g t) e) (i : S24x1x2048.Idx) (y : S3x1x2048.Idx)
    (h0 : (i 0 : ℕ) = 3 * g.val + (y 0 : ℕ)) (h2 : (i 2 : ℕ) = (y 2 : ℕ)) :
    rows (F := Ideal) A B y = score (fun n d => R (hrow (i 0) n) (hcol (i 0) n d)) (fun n d => T (hrow (i 0) n) (hcol (i 0) n d)) (slot (sl (i 0)) (i 2)) := by
  obtain ⟨r, p, rfl⟩ : ∃ (r : Fin 3) (p : Fin 2048), y = ix3 r 0 p := ⟨y 0, y 2, by blk_ext⟩
  have hi : i = ix3 (hd g r) 0 p := by
    have h0' : (i 0 : ℕ) = 3 * g.val + r.val := h0
    have h2' : (i 2 : ℕ) = p.val := h2
    unfold hd
    blk_ext
  subst hi
  refine (rows_head A R g B T hA hB r p).trans ?_
  show _ = score (fun n d => R (hrow (hd g r) n) (hcol (hd g r) n d)) (fun n d => T (hrow (hd g r) n) (hcol (hd g r) n d)) (slot (sl (hd g r)) p)
  rw [sl_hd]

/-- A loaded projection's entry: the sum of products and the bias. -/
theorem linL_at (x : FVec Ideal S512x768 .f32) (w : FVec Ideal S768x768 .f32) (b : FVec Ideal S1x768 .f32) (t : Fin 512) (c : Fin 768) :
    linL (F := Ideal) x w b (ix2 t c) = (∑ k : Fin 768, x (ix2 t k) * w (ix2 k c)) + b (ix2 0 c) := by
  unfold linL ra rb rc
  simp (disch := decide) only [View.ld_unit_lit']
  exact lin_at x w b t c

end Cert.KernelIdeal.Value
-- ==== Proof.Layer.lean ====
/- The arguments as the layer reads them, and the layer's result as an array. -/
module

public import proofs.«01_k».proof.Proof.Spec
public import Idealize.ShloMosaic.Lib.Pointwise

@[expose] public section

noncomputable section

namespace Cert.Spec

open Idealize.ShloMosaic Idealize.ShloMosaic.TcCoe

/-- The input's batch entries under one another. -/
def flatIn (x : (⟨3, ![2, 2048, 768]⟩ : Shape).Idx → EReal) (t : Fin 4096) (k : Fin 768) : EReal := x (ix3 ⟨t.val / 2048, by omega⟩ ⟨t.val % 2048, by omega⟩ k)

/-- A weight matrix. -/
def mat (w : (⟨2, ![768, 768]⟩ : Shape).Idx → EReal) (k c : Fin 768) : EReal := w (ix2 k c)

/-- A bias. -/
def vec (b : (⟨1, ![768]⟩ : Shape).Idx → EReal) (c : Fin 768) : EReal := b (ix1 c)

end Cert.Spec

end
-- ==== Proof.ArraysA.lean ====
/- What the first kernel region leaves in its output arrays, from the program's arguments. -/
module

public import proofs.«01_k».proof.Proof.PagesValue
public import proofs.«01_k».proof.Proof.KernelIdealRun
public import proofs.«01_k».proof.Proof.Layer
public import Idealize.ShloMosaic.Lib.Pipeline.ValueKit
public import Idealize.ShloMosaic.Lib.Claim

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Run Cert.Slots Cert.Spec

/-- A grid point of the first region is its number. -/
theorem point0_lt (t : Fin cfg0.N) : t.val < 8 := lt_of_lt_of_eq t.isLt N_0

/-- The first region's windows' block numbers, at every grid point. -/
theorem idx0 : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0]
    ∧ win0_7.index t = ![t.val, 0, 0] ∧ win0_8.index t = ![t.val, 0, 0] ∧ win0_9.index t = ![t.val, 0, 0] ∧ win0_10.index t = ![t.val, 0, 0] :=
  (by decide +kernel : ∀ t : Fin grid0.N, _)

variable (m : (ℓ : Loc nD τ sig) → Buf (Elt Ideal) ℓ) (ρ : Dev nD → PrngReg) (c : Dev nD)

/-- The rows of an array of two pages, one after the other. -/
theorem cast_rows (x : FVec Ideal S2x2048x768 .f32) (t : Fin 4096) (k : Fin 768) :
    shapeCast S4096x768 x shapeCasts_S2x2048x768_S4096x768 (ix2 t k) = flatIn x t k := by
  unfold flatIn
  pointwise
  blk_ext
/-- A vector laid out as a row. -/
theorem cast_bias (x : FVec Ideal S768 .f32) (k : Fin 768) : shapeCast S1x768 x shapeCasts_S768_S1x768 (ix2 0 k) = vec x k := by
  unfold vec
  pointwise

/-- The input's rows are the first argument's, in order. -/
theorem v0_read (t : Fin 4096) (k : Fin 768) :
    (show FVec Ideal S4096x768 .f32 from V1 m ρ c main_v0) (ix2 t k) = flatIn (m ((c : Thread nD τ).loc main_arg0)) t k := by
  have e : (show FVec Ideal S4096x768 .f32 from V1 m ρ c main_v0) = shapeCast S4096x768 (show FVec Ideal S2x2048x768 .f32 from m ((c : Thread nD τ).loc main_arg0)) shapeCasts_S2x2048x768_S4096x768 := by
    dsimp only [V1, W1, hostOps0]
    entry_read
    rfl
  exact (congrFun e _).trans (cast_rows _ t k)
/-- The bias laid out as a row is argument 2. -/
theorem v1_read (k : Fin 768) :
    (show FVec Ideal S1x768 .f32 from V1 m ρ c main_v1) (ix2 0 k) = vec (m ((c : Thread nD τ).loc main_arg2)) k := by
  have e : (show FVec Ideal S1x768 .f32 from V1 m ρ c main_v1) = shapeCast S1x768 (show FVec Ideal S768 .f32 from m ((c : Thread nD τ).loc main_arg2)) shapeCasts_S768_S1x768 := by
    dsimp only [V1, W1, hostOps0]
    entry_read
    rfl
  exact (congrFun e _).trans (cast_bias _ k)
/-- The bias laid out as a row is argument 4. -/
theorem v2_read (k : Fin 768) :
    (show FVec Ideal S1x768 .f32 from V1 m ρ c main_v2) (ix2 0 k) = vec (m ((c : Thread nD τ).loc main_arg4)) k := by
  have e : (show FVec Ideal S1x768 .f32 from V1 m ρ c main_v2) = shapeCast S1x768 (show FVec Ideal S768 .f32 from m ((c : Thread nD τ).loc main_arg4)) shapeCasts_S768_S1x768 := by
    dsimp only [V1, W1, hostOps0]
    entry_read
    rfl
  exact (congrFun e _).trans (cast_bias _ k)
/-- The bias laid out as a row is argument 6. -/
theorem v3_read (k : Fin 768) :
    (show FVec Ideal S1x768 .f32 from V1 m ρ c main_v3) (ix2 0 k) = vec (m ((c : Thread nD τ).loc main_arg6)) k := by
  have e : (show FVec Ideal S1x768 .f32 from V1 m ρ c main_v3) = shapeCast S1x768 (show FVec Ideal S768 .f32 from m ((c : Thread nD τ).loc main_arg6)) shapeCasts_S768_S1x768 := by
    dsimp only [V1, W1, hostOps0]
    entry_read
    rfl
  exact (congrFun e _).trans (cast_bias _ k)
/-- The bias laid out as a row is argument 8. -/
theorem v4_read (k : Fin 768) :
    (show FVec Ideal S1x768 .f32 from V1 m ρ c main_v4) (ix2 0 k) = vec (m ((c : Thread nD τ).loc main_arg8)) k := by
  have e : (show FVec Ideal S1x768 .f32 from V1 m ρ c main_v4) = shapeCast S1x768 (show FVec Ideal S768 .f32 from m ((c : Thread nD τ).loc main_arg8)) shapeCasts_S768_S1x768 := by
    dsimp only [V1, W1, hostOps0]
    entry_read
    rfl
  exact (congrFun e _).trans (cast_bias _ k)

/-- The first region's input block: rows of the flattened input. -/
theorem blk0_0 (t : Fin cfg0.N) (i : Fin 512) (k : Fin 768) :
    (show FVec Ideal S512x768 .f32 from iblk0 (V1 m ρ) c 0 t) (ix2 i k) = flatIn (m ((c : Thread nD τ).loc main_arg0)) (brow ⟨t.val, point0_lt t⟩ i) k := by
  refine Eq.trans ?_ (v0_read m ρ c (brow ⟨t.val, point0_lt t⟩ i) k)
  unfold brow
  blk_ext [iblk0, idx0 t]
/-- The first region's weight block 1: the whole of argument 1. -/
theorem blk0_1 (t : Fin cfg0.N) (k e : Fin 768) :
    (show FVec Ideal S768x768 .f32 from iblk0 (V1 m ρ) c 1 t) (ix2 k e) = mat (m ((c : Thread nD τ).loc main_arg1)) k e := by
  refine Eq.trans ?_ (congrFun (W1_args m ρ c main_arg1 (by decide)) (ix2 k e))
  blk_ext [iblk0, idx0 t]
/-- The first region's weight block 2: the whole of argument 3. -/
theorem blk0_2 (t : Fin cfg0.N) (k e : Fin 768) :
    (show FVec Ideal S768x768 .f32 from iblk0 (V1 m ρ) c 2 t) (ix2 k e) = mat (m ((c : Thread nD τ).loc main_arg3)) k e := by
  refine Eq.trans ?_ (congrFun (W1_args m ρ c main_arg3 (by decide)) (ix2 k e))
  blk_ext [iblk0, idx0 t]
/-- The first region's weight block 3: the whole of argument 5. -/
theorem blk0_3 (t : Fin cfg0.N) (k e : Fin 768) :
    (show FVec Ideal S768x768 .f32 from iblk0 (V1 m ρ) c 3 t) (ix2 k e) = mat (m ((c : Thread nD τ).loc main_arg5)) k e := by
  refine Eq.trans ?_ (congrFun (W1_args m ρ c main_arg5 (by decide)) (ix2 k e))
  blk_ext [iblk0, idx0 t]
/-- The first region's bias block 4: argument 2. -/
theorem blk0_4 (t : Fin cfg0.N) (e : Fin 768) :
    (show FVec Ideal S1x768 .f32 from iblk0 (V1 m ρ) c 4 t) (ix2 0 e) = vec (m ((c : Thread nD τ).loc main_arg2)) e := by
  refine Eq.trans ?_ (v1_read m ρ c e)
  blk_ext [iblk0, idx0 t]
/-- The first region's bias block 5: argument 4. -/
theorem blk0_5 (t : Fin cfg0.N) (e : Fin 768) :
    (show FVec Ideal S1x768 .f32 from iblk0 (V1 m ρ) c 5 t) (ix2 0 e) = vec (m ((c : Thread nD τ).loc main_arg4)) e := by
  refine Eq.trans ?_ (v2_read m ρ c e)
  blk_ext [iblk0, idx0 t]
/-- The first region's bias block 6: argument 6. -/
theorem blk0_6 (t : Fin cfg0.N) (e : Fin 768) :
    (show FVec Ideal S1x768 .f32 from iblk0 (V1 m ρ) c 6 t) (ix2 0 e) = vec (m ((c : Thread nD τ).loc main_arg6)) e := by
  refine Eq.trans ?_ (v3_read m ρ c e)
  blk_ext [iblk0, idx0 t]

/-- The rows of a projection of the flattened input. -/
def rowsOf (X : Fin 4096 → Fin 768 → EReal) (W : Fin 768 → Fin 768 → EReal) (b : Fin 768 → EReal) (n : Fin 4096) (e : Fin 768) : EReal :=
  (∑ k : Fin 768, X n k * W k e) + b e
/-- The projected block `q` is block `t` of its projection's rows. -/
theorem lin_q (t : Fin cfg0.N) (i : Fin 512) (e : Fin 768) :
    linL (F := Ideal) (iblk0 (V1 m ρ) c 0 t) (iblk0 (V1 m ρ) c 1 t) (iblk0 (V1 m ρ) c 4 t) (ix2 i e)
      = rowsOf (flatIn (m ((c : Thread nD τ).loc main_arg0))) (mat (m ((c : Thread nD τ).loc main_arg1))) (vec (m ((c : Thread nD τ).loc main_arg2))) (brow ⟨t.val, point0_lt t⟩ i) e :=
  (linL_at _ _ _ i e).trans (congrArg₂ (· + ·) (Finset.sum_congr rfl fun k _ => congrArg₂ (· * ·) (blk0_0 m ρ c t i k) (blk0_1 m ρ c t k e)) (blk0_4 m ρ c t e))
/-- The projected block `k` is block `t` of its projection's rows. -/
theorem lin_k (t : Fin cfg0.N) (i : Fin 512) (e : Fin 768) :
    linL (F := Ideal) (iblk0 (V1 m ρ) c 0 t) (iblk0 (V1 m ρ) c 2 t) (iblk0 (V1 m ρ) c 5 t) (ix2 i e)
      = rowsOf (flatIn (m ((c : Thread nD τ).loc main_arg0))) (mat (m ((c : Thread nD τ).loc main_arg3))) (vec (m ((c : Thread nD τ).loc main_arg4))) (brow ⟨t.val, point0_lt t⟩ i) e :=
  (linL_at _ _ _ i e).trans (congrArg₂ (· + ·) (Finset.sum_congr rfl fun k _ => congrArg₂ (· * ·) (blk0_0 m ρ c t i k) (blk0_2 m ρ c t k e)) (blk0_5 m ρ c t e))
/-- The projected block `v` is block `t` of its projection's rows. -/
theorem lin_v (t : Fin cfg0.N) (i : Fin 512) (e : Fin 768) :
    linL (F := Ideal) (iblk0 (V1 m ρ) c 0 t) (iblk0 (V1 m ρ) c 3 t) (iblk0 (V1 m ρ) c 6 t) (ix2 i e)
      = rowsOf (flatIn (m ((c : Thread nD τ).loc main_arg0))) (mat (m ((c : Thread nD τ).loc main_arg5))) (vec (m ((c : Thread nD τ).loc main_arg6))) (brow ⟨t.val, point0_lt t⟩ i) e :=
  (linL_at _ _ _ i e).trans (congrArg₂ (· + ·) (Finset.sum_congr rfl fun k _ => congrArg₂ (· * ·) (blk0_0 m ρ c t i k) (blk0_3 m ρ c t k e)) (blk0_6 m ρ c t e))

/-- The array of pages `q` after the first region: page `j` holds head `j`, its rows in the order of the slots. -/
theorem arr_q (j : Fin 24) (p : Fin 2048) (d : Fin 64) :
    (show FVec Ideal S24x2048x64 .bf16 from W2 m ρ c (Proc.devRef .tc main_v5_0)) (ix3 j p d)
      = proj (flatIn (m ((c : Thread nD τ).loc main_arg0))) (mat (m ((c : Thread nD τ).loc main_arg1))) (vec (m ((c : Thread nD τ).loc main_arg2))) j (slot (sl j) p) d := by
  have e : (dat0 (V1 m ρ) c).arrAt 7 cfg0.N = (show FVec Ideal S24x2048x64 .bf16 from fun i =>
      proj (flatIn (m ((c : Thread nD τ).loc main_arg0))) (mat (m ((c : Thread nD τ).loc main_arg1))) (vec (m ((c : Thread nD τ).loc main_arg2))) (i 0) (slot (sl (i 0)) (i 1)) (i 2)) := by
    refine (dat0 (V1 m ρ) c).arrAt_eq_of_covers 7 _ (by decide +kernel) fun t hf y => ?_
    blk_simp
    rw [after0_7]
    exact pages_place _ (rowsOf (flatIn (m ((c : Thread nD τ).loc main_arg0))) (mat (m ((c : Thread nD τ).loc main_arg1))) (vec (m ((c : Thread nD τ).loc main_arg2)))) ⟨t.val, point0_lt t⟩ (lin_q m ρ c t) _ y
      (by blk_simp [idx0 t]; dsimp only; omega) (by blk_simp [idx0 t] <;> omega) (by blk_simp [idx0 t] <;> omega)
  exact congrFun ((W2_arr m ρ c 7).trans e) (ix3 j p d)

/-- The array of pages `k` after the first region: page `j` holds head `j`, its rows in the order of the slots. -/
theorem arr_k (j : Fin 24) (p : Fin 2048) (d : Fin 64) :
    (show FVec Ideal S24x2048x64 .bf16 from W2 m ρ c (Proc.devRef .tc main_v5_1)) (ix3 j p d)
      = proj (flatIn (m ((c : Thread nD τ).loc main_arg0))) (mat (m ((c : Thread nD τ).loc main_arg3))) (vec (m ((c : Thread nD τ).loc main_arg4))) j (slot (sl j) p) d := by
  have e : (dat0 (V1 m ρ) c).arrAt 8 cfg0.N = (show FVec Ideal S24x2048x64 .bf16 from fun i =>
      proj (flatIn (m ((c : Thread nD τ).loc main_arg0))) (mat (m ((c : Thread nD τ).loc main_arg3))) (vec (m ((c : Thread nD τ).loc main_arg4))) (i 0) (slot (sl (i 0)) (i 1)) (i 2)) := by
    refine (dat0 (V1 m ρ) c).arrAt_eq_of_covers 8 _ (by decide +kernel) fun t hf y => ?_
    blk_simp
    rw [after0_8]
    exact pages_place _ (rowsOf (flatIn (m ((c : Thread nD τ).loc main_arg0))) (mat (m ((c : Thread nD τ).loc main_arg3))) (vec (m ((c : Thread nD τ).loc main_arg4)))) ⟨t.val, point0_lt t⟩ (lin_k m ρ c t) _ y
      (by blk_simp [idx0 t]; dsimp only; omega) (by blk_simp [idx0 t] <;> omega) (by blk_simp [idx0 t] <;> omega)
  exact congrFun ((W2_arr m ρ c 8).trans e) (ix3 j p d)

/-- The array of pages `v` after the first region: page `j` holds head `j`, its rows in the order of the slots. -/
theorem arr_v (j : Fin 24) (p : Fin 2048) (d : Fin 64) :
    (show FVec Ideal S24x2048x64 .bf16 from W2 m ρ c (Proc.devRef .tc main_v5_2)) (ix3 j p d)
      = proj (flatIn (m ((c : Thread nD τ).loc main_arg0))) (mat (m ((c : Thread nD τ).loc main_arg5))) (vec (m ((c : Thread nD τ).loc main_arg6))) j (slot (sl j) p) d := by
  have e : (dat0 (V1 m ρ) c).arrAt 9 cfg0.N = (show FVec Ideal S24x2048x64 .bf16 from fun i =>
      proj (flatIn (m ((c : Thread nD τ).loc main_arg0))) (mat (m ((c : Thread nD τ).loc main_arg5))) (vec (m ((c : Thread nD τ).loc main_arg6))) (i 0) (slot (sl (i 0)) (i 1)) (i 2)) := by
    refine (dat0 (V1 m ρ) c).arrAt_eq_of_covers 9 _ (by decide +kernel) fun t hf y => ?_
    blk_simp
    rw [after0_9]
    exact pages_place _ (rowsOf (flatIn (m ((c : Thread nD τ).loc main_arg0))) (mat (m ((c : Thread nD τ).loc main_arg5))) (vec (m ((c : Thread nD τ).loc main_arg6)))) ⟨t.val, point0_lt t⟩ (lin_v m ρ c t) _ y
      (by blk_simp [idx0 t]; dsimp only; omega) (by blk_simp [idx0 t] <;> omega) (by blk_simp [idx0 t] <;> omega)
  exact congrFun ((W2_arr m ρ c 9).trans e) (ix3 j p d)

/-- The array of scores after the first region: row `j` holds head `j`'s scores, in the order of the slots. -/
theorem arr_m (j : Fin 24) (p : Fin 2048) :
    (show FVec Ideal S24x1x2048 .f32 from W2 m ρ c (Proc.devRef .tc main_v5_3)) (ix3 j 0 p)
      = score (proj (flatIn (m ((c : Thread nD τ).loc main_arg0))) (mat (m ((c : Thread nD τ).loc main_arg1))) (vec (m ((c : Thread nD τ).loc main_arg2))) j) (proj (flatIn (m ((c : Thread nD τ).loc main_arg0))) (mat (m ((c : Thread nD τ).loc main_arg3))) (vec (m ((c : Thread nD τ).loc main_arg4))) j) (slot (sl j) p) := by
  have e : (dat0 (V1 m ρ) c).arrAt 10 cfg0.N = (show FVec Ideal S24x1x2048 .f32 from fun i =>
      score (proj (flatIn (m ((c : Thread nD τ).loc main_arg0))) (mat (m ((c : Thread nD τ).loc main_arg1))) (vec (m ((c : Thread nD τ).loc main_arg2))) (i 0)) (proj (flatIn (m ((c : Thread nD τ).loc main_arg0))) (mat (m ((c : Thread nD τ).loc main_arg3))) (vec (m ((c : Thread nD τ).loc main_arg4))) (i 0)) (slot (sl (i 0)) (i 2))) := by
    refine (dat0 (V1 m ρ) c).arrAt_eq_of_covers 10 _ (by decide +kernel) fun t hf y => ?_
    blk_simp
    rw [after0_10]
    exact rows_place _ (rowsOf (flatIn (m ((c : Thread nD τ).loc main_arg0))) (mat (m ((c : Thread nD τ).loc main_arg1))) (vec (m ((c : Thread nD τ).loc main_arg2)))) ⟨t.val, point0_lt t⟩ _ (rowsOf (flatIn (m ((c : Thread nD τ).loc main_arg0))) (mat (m ((c : Thread nD τ).loc main_arg3))) (vec (m ((c : Thread nD τ).loc main_arg4)))) (lin_q m ρ c t) (lin_k m ρ c t) _ y
      (by blk_simp [idx0 t]; dsimp only; omega) (by blk_simp [idx0 t] <;> omega)
  exact congrFun ((W2_arr m ρ c 10).trans e) (ix3 j 0 p)

end Cert.KernelIdeal.Value
-- ==== Proof.UnstackValue.lean ====
/- What an unstacked block holds at an index: the rows of the three slices back in their places. -/
module

public import proofs.«01_k».proof.Proof.KernelIdealBody
public import proofs.«01_k».proof.Proof.Slots
public import Idealize.ShloMosaic.Lib.Pointwise

@[expose] public section

set_option maxRecDepth 16384

noncomputable section

namespace Cert.KernelIdeal.Value

open Cert.KernelIdeal.Gen Cert.KernelIdeal.Run Cert.Slots
open Idealize.ShloMosaic Idealize.ShloMosaic.TcCoe Idealize.SL.Sem

/-- Three pieces of column group 0 under one another. -/
theorem col0_at (x0 : FVec Ideal S171x64 .f32) (x1 : FVec Ideal S171x64 .f32) (x2 : FVec Ideal S170x64 .f32) (O : Nat → Nat → EReal) (t : Fin 512) (d : Fin 64)
    (h0 : ∀ i : Fin 171, x0 (ix2 i d) = O (12 * (0 + i.val) + 0) d.val)
    (h1 : ∀ i : Fin 171, x1 (ix2 i d) = O (12 * (171 + i.val) + 0) d.val)
    (h2 : ∀ i : Fin 170, x2 (ix2 i d) = O (12 * (342 + i.val) + 0) d.val)
    : concatenate S512x64 0 [⟨S171x64, x0⟩, ⟨S171x64, x1⟩, ⟨S170x64, x2⟩] concatenates_S171x64_S171x64_S170x64_S512x64_d0 (ix2 t d) = O (12 * t.val + 0) d.val := by
  pointwise
  by_cases c0 : t.val < 171
  · rw [dif_pos c0, h0]; congr 1; (try simp only []); omega
  rw [dif_neg c0]
  by_cases c1 : t.val - 171 < 171
  · rw [dif_pos c1, h1]; congr 1; (try simp only []); omega
  rw [dif_neg c1, h2]; congr 1; (try simp only []); omega

/-- Column group 0 of the block holds heads' rows `12 t + 0`. -/
theorem grp0_at (a b c : FVec Ideal S2048x64 .f32) (O : Nat → Nat → EReal)
    (ha : ∀ (p : Fin 2048) (d : Fin 64), a (ix2 p d) = O (slot0 p.val) d.val)
    (hb : ∀ (p : Fin 2048) (d : Fin 64), b (ix2 p d) = O (2048 + slot1 p.val) d.val)
    (hc : ∀ (p : Fin 2048) (d : Fin 64), c (ix2 p d) = O (4096 + slot2 p.val) d.val) (t : Fin 512) (d : Fin 64) :
    grp0 a b c (ix2 t d) = O (12 * t.val + 0) d.val := by
  unfold grp0
  refine col0_at _ _ _ O t d ?_ ?_ ?_
  · intro i
    have e : ∀ x : Nat, x < 171 → 0 ≤ x → slot0 x = 12 * x + 0 := by
      intro x h1 h2
      unfold slot0; simp only [show x < 171 by omega, if_true]
    pointwise
    rw [ha]; congr 1; (try simp only []); rw [e _ (by omega) (by omega)]; omega
  · intro i
    have e : ∀ x : Nat, x < 171 → 0 ≤ x → slot1 x = 12 * x + 4 := by
      intro x h1 h2
      unfold slot1; simp only [show x < 171 by omega, if_true]
    pointwise
    rw [hb]; congr 1; (try simp only []); rw [e _ (by omega) (by omega)]; omega
  · intro i
    have e : ∀ x : Nat, x < 170 → 0 ≤ x → slot2 x = 12 * x + 8 := by
      intro x h1 h2
      unfold slot2; simp only [show x < 170 by omega, if_true]
    pointwise
    rw [hc]; congr 1; (try simp only []); rw [e _ (by omega) (by omega)]; omega

/-- Three pieces of column group 1 under one another. -/
theorem col1_at (x0 : FVec Ideal S171x64 .f32) (x1 : FVec Ideal S171x64 .f32) (x2 : FVec Ideal S170x64 .f32) (O : Nat → Nat → EReal) (t : Fin 512) (d : Fin 64)
    (h0 : ∀ i : Fin 171, x0 (ix2 i d) = O (12 * (0 + i.val) + 1) d.val)
    (h1 : ∀ i : Fin 171, x1 (ix2 i d) = O (12 * (171 + i.val) + 1) d.val)
    (h2 : ∀ i : Fin 170, x2 (ix2 i d) = O (12 * (342 + i.val) + 1) d.val)
    : concatenate S512x64 0 [⟨S171x64, x0⟩, ⟨S171x64, x1⟩, ⟨S170x64, x2⟩] concatenates_S171x64_S171x64_S170x64_S512x64_d0 (ix2 t d) = O (12 * t.val + 1) d.val := by
  pointwise
  by_cases c0 : t.val < 171
  · rw [dif_pos c0, h0]; congr 1; (try simp only []); omega
  rw [dif_neg c0]
  by_cases c1 : t.val - 171 < 171
  · rw [dif_pos c1, h1]; congr 1; (try simp only []); omega
  rw [dif_neg c1, h2]; congr 1; (try simp only []); omega

/-- Column group 1 of the block holds heads' rows `12 t + 1`. -/
theorem grp1_at (a b c : FVec Ideal S2048x64 .f32) (O : Nat → Nat → EReal)
    (ha : ∀ (p : Fin 2048) (d : Fin 64), a (ix2 p d) = O (slot0 p.val) d.val)
    (hb : ∀ (p : Fin 2048) (d : Fin 64), b (ix2 p d) = O (2048 + slot1 p.val) d.val)
    (hc : ∀ (p : Fin 2048) (d : Fin 64), c (ix2 p d) = O (4096 + slot2 p.val) d.val) (t : Fin 512) (d : Fin 64) :
    grp1 a b c (ix2 t d) = O (12 * t.val + 1) d.val := by
  unfold grp1
  refine col1_at _ _ _ O t d ?_ ?_ ?_
  · intro i
    have e : ∀ x : Nat, x < 342 → 171 ≤ x → slot0 x = 12 * (x - 171) + 1 := by
      intro x h1 h2
      unfold slot0; simp only [show ¬ x < 171 by omega, show x < 342 by omega, if_true, if_false]
    pointwise
    rw [ha]; congr 1; (try simp only []); rw [e _ (by omega) (by omega)]; omega
  · intro i
    have e : ∀ x : Nat, x < 342 → 171 ≤ x → slot1 x = 12 * (x - 171) + 5 := by
      intro x h1 h2
      unfold slot1; simp only [show ¬ x < 171 by omega, show x < 342 by omega, if_true, if_false]
    pointwise
    rw [hb]; congr 1; (try simp only []); rw [e _ (by omega) (by omega)]; omega
  · intro i
    have e : ∀ x : Nat, x < 340 → 170 ≤ x → slot2 x = 12 * (x - 170) + 9 := by
      intro x h1 h2
      unfold slot2; simp only [show ¬ x < 170 by omega, show x < 340 by omega, if_true, if_false]
    pointwise
    rw [hc]; congr 1; (try simp only []); rw [e _ (by omega) (by omega)]; omega

/-- Three pieces of column group 2 under one another. -/
theorem col2_at (x0 : FVec Ideal S171x64 .f32) (x1 : FVec Ideal S171x64 .f32) (x2 : FVec Ideal S170x64 .f32) (O : Nat → Nat → EReal) (t : Fin 512) (d : Fin 64)
    (h0 : ∀ i : Fin 171, x0 (ix2 i d) = O (12 * (0 + i.val) + 2) d.val)
    (h1 : ∀ i : Fin 171, x1 (ix2 i d) = O (12 * (171 + i.val) + 2) d.val)
    (h2 : ∀ i : Fin 170, x2 (ix2 i d) = O (12 * (342 + i.val) + 2) d.val)
    : concatenate S512x64 0 [⟨S171x64, x0⟩, ⟨S171x64, x1⟩, ⟨S170x64, x2⟩] concatenates_S171x64_S171x64_S170x64_S512x64_d0 (ix2 t d) = O (12 * t.val + 2) d.val := by
  pointwise
  by_cases c0 : t.val < 171
  · rw [dif_pos c0, h0]; congr 1; (try simp only []); omega
  rw [dif_neg c0]
  by_cases c1 : t.val - 171 < 171
  · rw [dif_pos c1, h1]; congr 1; (try simp only []); omega
  rw [dif_neg c1, h2]; congr 1; (try simp only []); omega

/-- Column group 2 of the block holds heads' rows `12 t + 2`. -/
theorem grp2_at (a b c : FVec Ideal S2048x64 .f32) (O : Nat → Nat → EReal)
    (ha : ∀ (p : Fin 2048) (d : Fin 64), a (ix2 p d) = O (slot0 p.val) d.val)
    (hb : ∀ (p : Fin 2048) (d : Fin 64), b (ix2 p d) = O (2048 + slot1 p.val) d.val)
    (hc : ∀ (p : Fin 2048) (d : Fin 64), c (ix2 p d) = O (4096 + slot2 p.val) d.val) (t : Fin 512) (d : Fin 64) :
    grp2 a b c (ix2 t d) = O (12 * t.val + 2) d.val := by
  unfold grp2
  refine col2_at _ _ _ O t d ?_ ?_ ?_
  · intro i
    have e : ∀ x : Nat, x < 513 → 342 ≤ x → slot0 x = 12 * (x - 342) + 2 := by
      intro x h1 h2
      unfold slot0; simp only [show ¬ x < 171 by omega, show ¬ x < 342 by omega, show x < 513 by omega, if_true, if_false]
    pointwise
    rw [ha]; congr 1; (try simp only []); rw [e _ (by omega) (by omega)]; omega
  · intro i
    have e : ∀ x : Nat, x < 513 → 342 ≤ x → slot1 x = 12 * (x - 342) + 6 := by
      intro x h1 h2
      unfold slot1; simp only [show ¬ x < 171 by omega, show ¬ x < 342 by omega, show x < 513 by omega, if_true, if_false]
    pointwise
    rw [hb]; congr 1; (try simp only []); rw [e _ (by omega) (by omega)]; omega
  · intro i
    have e : ∀ x : Nat, x < 510 → 340 ≤ x → slot2 x = 12 * (x - 340) + 10 := by
      intro x h1 h2
      unfold slot2; simp only [show ¬ x < 170 by omega, show ¬ x < 340 by omega, show x < 510 by omega, if_true, if_false]
    pointwise
    rw [hc]; congr 1; (try simp only []); rw [e _ (by omega) (by omega)]; omega

/-- Three pieces of column group 3 under one another. -/
theorem col3_at (x0 : FVec Ideal S171x64 .f32) (x1 : FVec Ideal S171x64 .f32) (x2 : FVec Ideal S170x64 .f32) (O : Nat → Nat → EReal) (t : Fin 512) (d : Fin 64)
    (h0 : ∀ i : Fin 171, x0 (ix2 i d) = O (12 * (0 + i.val) + 3) d.val)
    (h1 : ∀ i : Fin 171, x1 (ix2 i d) = O (12 * (171 + i.val) + 3) d.val)
    (h2 : ∀ i : Fin 170, x2 (ix2 i d) = O (12 * (342 + i.val) + 3) d.val)
    : concatenate S512x64 0 [⟨S171x64, x0⟩, ⟨S171x64, x1⟩, ⟨S170x64, x2⟩] concatenates_S171x64_S171x64_S170x64_S512x64_d0 (ix2 t d) = O (12 * t.val + 3) d.val := by
  pointwise
  by_cases c0 : t.val < 171
  · rw [dif_pos c0, h0]; congr 1; (try simp only []); omega
  rw [dif_neg c0]
  by_cases c1 : t.val - 171 < 171
  · rw [dif_pos c1, h1]; congr 1; (try simp only []); omega
  rw [dif_neg c1, h2]; congr 1; (try simp only []); omega

/-- Column group 3 of the block holds heads' rows `12 t + 3`. -/
theorem grp3_at (a b c : FVec Ideal S2048x64 .f32) (O : Nat → Nat → EReal)
    (ha : ∀ (p : Fin 2048) (d : Fin 64), a (ix2 p d) = O (slot0 p.val) d.val)
    (hb : ∀ (p : Fin 2048) (d : Fin 64), b (ix2 p d) = O (2048 + slot1 p.val) d.val)
    (hc : ∀ (p : Fin 2048) (d : Fin 64), c (ix2 p d) = O (4096 + slot2 p.val) d.val) (t : Fin 512) (d : Fin 64) :
    grp3 a b c (ix2 t d) = O (12 * t.val + 3) d.val := by
  unfold grp3
  refine col3_at _ _ _ O t d ?_ ?_ ?_
  · intro i
    have e : ∀ x : Nat, x < 684 → 513 ≤ x → slot0 x = 12 * (x - 513) + 3 := by
      intro x h1 h2
      unfold slot0; simp only [show ¬ x < 171 by omega, show ¬ x < 342 by omega, show ¬ x < 513 by omega, show x < 684 by omega, if_true, if_false]
    pointwise
    rw [ha]; congr 1; (try simp only []); rw [e _ (by omega) (by omega)]; omega
  · intro i
    have e : ∀ x : Nat, x < 684 → 513 ≤ x → slot1 x = 12 * (x - 513) + 7 := by
      intro x h1 h2
      unfold slot1; simp only [show ¬ x < 171 by omega, show ¬ x < 342 by omega, show ¬ x < 513 by omega, show x < 684 by omega, if_true, if_false]
    pointwise
    rw [hb]; congr 1; (try simp only []); rw [e _ (by omega) (by omega)]; omega
  · intro i
    have e : ∀ x : Nat, x < 680 → 510 ≤ x → slot2 x = 12 * (x - 510) + 11 := by
      intro x h1 h2
      unfold slot2; simp only [show ¬ x < 170 by omega, show ¬ x < 340 by omega, show ¬ x < 510 by omega, show x < 680 by omega, if_true, if_false]
    pointwise
    rw [hc]; congr 1; (try simp only []); rw [e _ (by omega) (by omega)]; omega

/-- Three pieces of column group 4 under one another. -/
theorem col4_at (x0 : FVec Ideal S171x64 .f32) (x1 : FVec Ideal S170x64 .f32) (x2 : FVec Ideal S171x64 .f32) (O : Nat → Nat → EReal) (t : Fin 512) (d : Fin 64)
    (h0 : ∀ i : Fin 171, x0 (ix2 i d) = O (12 * (0 + i.val) + 4) d.val)
    (h1 : ∀ i : Fin 170, x1 (ix2 i d) = O (12 * (171 + i.val) + 4) d.val)
    (h2 : ∀ i : Fin 171, x2 (ix2 i d) = O (12 * (341 + i.val) + 4) d.val)
    : concatenate S512x64 0 [⟨S171x64, x0⟩, ⟨S170x64, x1⟩, ⟨S171x64, x2⟩] concatenates_S171x64_S170x64_S171x64_S512x64_d0 (ix2 t d) = O (12 * t.val + 4) d.val := by
  pointwise
  by_cases c0 : t.val < 171
  · rw [dif_pos c0, h0]; congr 1; (try simp only []); omega
  rw [dif_neg c0]
  by_cases c1 : t.val - 171 < 170
  · rw [dif_pos c1, h1]; congr 1; (try simp only []); omega
  rw [dif_neg c1, h2]; congr 1; (try simp only []); omega

/-- Column group 4 of the block holds heads' rows `12 t + 4`. -/
theorem grp4_at (a b c : FVec Ideal S2048x64 .f32) (O : Nat → Nat → EReal)
    (ha : ∀ (p : Fin 2048) (d : Fin 64), a (ix2 p d) = O (slot0 p.val) d.val)
    (hb : ∀ (p : Fin 2048) (d : Fin 64), b (ix2 p d) = O (2048 + slot1 p.val) d.val)
    (hc : ∀ (p : Fin 2048) (d : Fin 64), c (ix2 p d) = O (4096 + slot2 p.val) d.val) (t : Fin 512) (d : Fin 64) :
    grp4 a b c (ix2 t d) = O (12 * t.val + 4) d.val := by
  unfold grp4
  refine col4_at _ _ _ O t d ?_ ?_ ?_
  · intro i
    have e : ∀ x : Nat, x < 855 → 684 ≤ x → slot0 x = 12 * (x - 684) + 4 := by
      intro x h1 h2
      unfold slot0; simp only [show ¬ x < 171 by omega, show ¬ x < 342 by omega, show ¬ x < 513 by omega, show ¬ x < 684 by omega, show x < 855 by omega, if_true, if_false]
    pointwise
    rw [ha]; congr 1; (try simp only []); rw [e _ (by omega) (by omega)]; omega
  · intro i
    have e : ∀ x : Nat, x < 854 → 684 ≤ x → slot1 x = 12 * (x - 684) + 8 := by
      intro x h1 h2
      unfold slot1; simp only [show ¬ x < 171 by omega, show ¬ x < 342 by omega, show ¬ x < 513 by omega, show ¬ x < 684 by omega, show x < 854 by omega, if_true, if_false]
    pointwise
    rw [hb]; congr 1; (try simp only []); rw [e _ (by omega) (by omega)]; omega
  · intro i
    have e : ∀ x : Nat, x < 851 → 680 ≤ x → slot2 x = 12 * (x - 680) + 0 := by
      intro x h1 h2
      unfold slot2; simp only [show ¬ x < 170 by omega, show ¬ x < 340 by omega, show ¬ x < 510 by omega, show ¬ x < 680 by omega, show x < 851 by omega, if_true, if_false]
    pointwise
    rw [hc]; congr 1; (try simp only []); rw [e _ (by omega) (by omega)]; omega

/-- Three pieces of column group 5 under one another. -/
theorem col5_at (x0 : FVec Ideal S171x64 .f32) (x1 : FVec Ideal S170x64 .f32) (x2 : FVec Ideal S171x64 .f32) (O : Nat → Nat → EReal) (t : Fin 512) (d : Fin 64)
    (h0 : ∀ i : Fin 171, x0 (ix2 i d) = O (12 * (0 + i.val) + 5) d.val)
    (h1 : ∀ i : Fin 170, x1 (ix2 i d) = O (12 * (171 + i.val) + 5) d.val)
    (h2 : ∀ i : Fin 171, x2 (ix2 i d) = O (12 * (341 + i.val) + 5) d.val)
    : concatenate S512x64 0 [⟨S171x64, x0⟩, ⟨S170x64, x1⟩, ⟨S171x64, x2⟩] concatenates_S171x64_S170x64_S171x64_S512x64_d0 (ix2 t d) = O (12 * t.val + 5) d.val := by
  pointwise
  by_cases c0 : t.val < 171
  · rw [dif_pos c0, h0]; congr 1; (try simp only []); omega
  rw [dif_neg c0]
  by_cases c1 : t.val - 171 < 170
  · rw [dif_pos c1, h1]; congr 1; (try simp only []); omega
  rw [dif_neg c1, h2]; congr 1; (try simp only []); omega

/-- Column group 5 of the block holds heads' rows `12 t + 5`. -/
theorem grp5_at (a b c : FVec Ideal S2048x64 .f32) (O : Nat → Nat → EReal)
    (ha : ∀ (p : Fin 2048) (d : Fin 64), a (ix2 p d) = O (slot0 p.val) d.val)
    (hb : ∀ (p : Fin 2048) (d : Fin 64), b (ix2 p d) = O (2048 + slot1 p.val) d.val)
    (hc : ∀ (p : Fin 2048) (d : Fin 64), c (ix2 p d) = O (4096 + slot2 p.val) d.val) (t : Fin 512) (d : Fin 64) :
    grp5 a b c (ix2 t d) = O (12 * t.val + 5) d.val := by
  unfold grp5
  refine col5_at _ _ _ O t d ?_ ?_ ?_
  · intro i
    have e : ∀ x : Nat, x < 1026 → 855 ≤ x → slot0 x = 12 * (x - 855) + 5 := by
      intro x h1 h2
      unfold slot0; simp only [show ¬ x < 171 by omega, show ¬ x < 342 by omega, show ¬ x < 513 by omega, show ¬ x < 684 by omega, show ¬ x < 855 by omega, show x < 1026 by omega, if_true, if_false]
    pointwise
    rw [ha]; congr 1; (try simp only []); rw [e _ (by omega) (by omega)]; omega
  · intro i
    have e : ∀ x : Nat, x < 1024 → 854 ≤ x → slot1 x = 12 * (x - 854) + 9 := by
      intro x h1 h2
      unfold slot1; simp only [show ¬ x < 171 by omega, show ¬ x < 342 by omega, show ¬ x < 513 by omega, show ¬ x < 684 by omega, show ¬ x < 854 by omega, show x < 1024 by omega, if_true, if_false]
    pointwise
    rw [hb]; congr 1; (try simp only []); rw [e _ (by omega) (by omega)]; omega
  · intro i
    have e : ∀ x : Nat, x < 1022 → 851 ≤ x → slot2 x = 12 * (x - 851) + 1 := by
      intro x h1 h2
      unfold slot2; simp only [show ¬ x < 170 by omega, show ¬ x < 340 by omega, show ¬ x < 510 by omega, show ¬ x < 680 by omega, show ¬ x < 851 by omega, show x < 1022 by omega, if_true, if_false]
    pointwise
    rw [hc]; congr 1; (try simp only []); rw [e _ (by omega) (by omega)]; omega

/-- Three pieces of column group 6 under one another. -/
theorem col6_at (x0 : FVec Ideal S171x64 .f32) (x1 : FVec Ideal S170x64 .f32) (x2 : FVec Ideal S171x64 .f32) (O : Nat → Nat → EReal) (t : Fin 512) (d : Fin 64)
    (h0 : ∀ i : Fin 171, x0 (ix2 i d) = O (12 * (0 + i.val) + 6) d.val)
    (h1 : ∀ i : Fin 170, x1 (ix2 i d) = O (12 * (171 + i.val) + 6) d.val)
    (h2 : ∀ i : Fin 171, x2 (ix2 i d) = O (12 * (341 + i.val) + 6) d.val)
    : concatenate S512x64 0 [⟨S171x64, x0⟩, ⟨S170x64, x1⟩, ⟨S171x64, x2⟩] concatenates_S171x64_S170x64_S171x64_S512x64_d0 (ix2 t d) = O (12 * t.val + 6) d.val := by
  pointwise
  by_cases c0 : t.val < 171
  · rw [dif_pos c0, h0]; congr 1; (try simp only []); omega
  rw [dif_neg c0]
  by_cases c1 : t.val - 171 < 170
  · rw [dif_pos c1, h1]; congr 1; (try simp only []); omega
  rw [dif_neg c1, h2]; congr 1; (try simp only []); omega

/-- Column group 6 of the block holds heads' rows `12 t + 6`. -/
theorem grp6_at (a b c : FVec Ideal S2048x64 .f32) (O : Nat → Nat → EReal)
    (ha : ∀ (p : Fin 2048) (d : Fin 64), a (ix2 p d) = O (slot0 p.val) d.val)
    (hb : ∀ (p : Fin 2048) (d : Fin 64), b (ix2 p d) = O (2048 + slot1 p.val) d.val)
    (hc : ∀ (p : Fin 2048) (d : Fin 64), c (ix2 p d) = O (4096 + slot2 p.val) d.val) (t : Fin 512) (d : Fin 64) :
    grp6 a b c (ix2 t d) = O (12 * t.val + 6) d.val := by
  unfold grp6
  refine col6_at _ _ _ O t d ?_ ?_ ?_
  · intro i
    have e : ∀ x : Nat, x < 1197 → 1026 ≤ x → slot0 x = 12 * (x - 1026) + 6 := by
      intro x h1 h2
      unfold slot0; simp only [show ¬ x < 171 by omega, show ¬ x < 342 by omega, show ¬ x < 513 by omega, show ¬ x < 684 by omega, show ¬ x < 855 by omega, show ¬ x < 1026 by omega, show x < 1197 by omega, if_true, if_false]
    pointwise
    rw [ha]; congr 1; (try simp only []); rw [e _ (by omega) (by omega)]; omega
  · intro i
    have e : ∀ x : Nat, x < 1194 → 1024 ≤ x → slot1 x = 12 * (x - 1024) + 10 := by
      intro x h1 h2
      unfold slot1; simp only [show ¬ x < 171 by omega, show ¬ x < 342 by omega, show ¬ x < 513 by omega, show ¬ x < 684 by omega, show ¬ x < 854 by omega, show ¬ x < 1024 by omega, show x < 1194 by omega, if_true, if_false]
    pointwise
    rw [hb]; congr 1; (try simp only []); rw [e _ (by omega) (by omega)]; omega
  · intro i
    have e : ∀ x : Nat, x < 1193 → 1022 ≤ x → slot2 x = 12 * (x - 1022) + 2 := by
      intro x h1 h2
      unfold slot2; simp only [show ¬ x < 170 by omega, show ¬ x < 340 by omega, show ¬ x < 510 by omega, show ¬ x < 680 by omega, show ¬ x < 851 by omega, show ¬ x < 1022 by omega, show x < 1193 by omega, if_true, if_false]
    pointwise
    rw [hc]; congr 1; (try simp only []); rw [e _ (by omega) (by omega)]; omega

/-- Three pieces of column group 7 under one another. -/
theorem col7_at (x0 : FVec Ideal S171x64 .f32) (x1 : FVec Ideal S170x64 .f32) (x2 : FVec Ideal S171x64 .f32) (O : Nat → Nat → EReal) (t : Fin 512) (d : Fin 64)
    (h0 : ∀ i : Fin 171, x0 (ix2 i d) = O (12 * (0 + i.val) + 7) d.val)
    (h1 : ∀ i : Fin 170, x1 (ix2 i d) = O (12 * (171 + i.val) + 7) d.val)
    (h2 : ∀ i : Fin 171, x2 (ix2 i d) = O (12 * (341 + i.val) + 7) d.val)
    : concatenate S512x64 0 [⟨S171x64, x0⟩, ⟨S170x64, x1⟩, ⟨S171x64, x2⟩] concatenates_S171x64_S170x64_S171x64_S512x64_d0 (ix2 t d) = O (12 * t.val + 7) d.val := by
  pointwise
  by_cases c0 : t.val < 171
  · rw [dif_pos c0, h0]; congr 1; (try simp only []); omega
  rw [dif_neg c0]
  by_cases c1 : t.val - 171 < 170
  · rw [dif_pos c1, h1]; congr 1; (try simp only []); omega
  rw [dif_neg c1, h2]; congr 1; (try simp only []); omega

/-- Column group 7 of the block holds heads' rows `12 t + 7`. -/
theorem grp7_at (a b c : FVec Ideal S2048x64 .f32) (O : Nat → Nat → EReal)
    (ha : ∀ (p : Fin 2048) (d : Fin 64), a (ix2 p d) = O (slot0 p.val) d.val)
    (hb : ∀ (p : Fin 2048) (d : Fin 64), b (ix2 p d) = O (2048 + slot1 p.val) d.val)
    (hc : ∀ (p : Fin 2048) (d : Fin 64), c (ix2 p d) = O (4096 + slot2 p.val) d.val) (t : Fin 512) (d : Fin 64) :
    grp7 a b c (ix2 t d) = O (12 * t.val + 7) d.val := by
  unfold grp7
  refine col7_at _ _ _ O t d ?_ ?_ ?_
  · intro i
    have e : ∀ x : Nat, x < 1368 → 1197 ≤ x → slot0 x = 12 * (x - 1197) + 7 := by
      intro x h1 h2
      unfold slot0; simp only [show ¬ x < 171 by omega, show ¬ x < 342 by omega, show ¬ x < 513 by omega, show ¬ x < 684 by omega, show ¬ x < 855 by omega, show ¬ x < 1026 by omega, show ¬ x < 1197 by omega, show x < 1368 by omega, if_true, if_false]
    pointwise
    rw [ha]; congr 1; (try simp only []); rw [e _ (by omega) (by omega)]; omega
  · intro i
    have e : ∀ x : Nat, x < 1364 → 1194 ≤ x → slot1 x = 12 * (x - 1194) + 11 := by
      intro x h1 h2
      unfold slot1; simp only [show ¬ x < 171 by omega, show ¬ x < 342 by omega, show ¬ x < 513 by omega, show ¬ x < 684 by omega, show ¬ x < 854 by omega, show ¬ x < 1024 by omega, show ¬ x < 1194 by omega, show x < 1364 by omega, if_true, if_false]
    pointwise
    rw [hb]; congr 1; (try simp only []); rw [e _ (by omega) (by omega)]; omega
  · intro i
    have e : ∀ x : Nat, x < 1364 → 1193 ≤ x → slot2 x = 12 * (x - 1193) + 3 := by
      intro x h1 h2
      unfold slot2; simp only [show ¬ x < 170 by omega, show ¬ x < 340 by omega, show ¬ x < 510 by omega, show ¬ x < 680 by omega, show ¬ x < 851 by omega, show ¬ x < 1022 by omega, show ¬ x < 1193 by omega, show x < 1364 by omega, if_true, if_false]
    pointwise
    rw [hc]; congr 1; (try simp only []); rw [e _ (by omega) (by omega)]; omega

/-- Three pieces of column group 8 under one another. -/
theorem col8_at (x0 : FVec Ideal S170x64 .f32) (x1 : FVec Ideal S171x64 .f32) (x2 : FVec Ideal S171x64 .f32) (O : Nat → Nat → EReal) (t : Fin 512) (d : Fin 64)
    (h0 : ∀ i : Fin 170, x0 (ix2 i d) = O (12 * (0 + i.val) + 8) d.val)
    (h1 : ∀ i : Fin 171, x1 (ix2 i d) = O (12 * (170 + i.val) + 8) d.val)
    (h2 : ∀ i : Fin 171, x2 (ix2 i d) = O (12 * (341 + i.val) + 8) d.val)
    : concatenate S512x64 0 [⟨S170x64, x0⟩, ⟨S171x64, x1⟩, ⟨S171x64, x2⟩] concatenates_S170x64_S171x64_S171x64_S512x64_d0 (ix2 t d) = O (12 * t.val + 8) d.val := by
  pointwise
  by_cases c0 : t.val < 170
  · rw [dif_pos c0, h0]; congr 1; (try simp only []); omega
  rw [dif_neg c0]
  by_cases c1 : t.val - 170 < 171
  · rw [dif_pos c1, h1]; congr 1; (try simp only []); omega
  rw [dif_neg c1, h2]; congr 1; (try simp only []); omega

/-- Column group 8 of the block holds heads' rows `12 t + 8`. -/
theorem grp8_at (a b c : FVec Ideal S2048x64 .f32) (O : Nat → Nat → EReal)
    (ha : ∀ (p : Fin 2048) (d : Fin 64), a (ix2 p d) = O (slot0 p.val) d.val)
    (hb : ∀ (p : Fin 2048) (d : Fin 64), b (ix2 p d) = O (2048 + slot1 p.val) d.val)
    (hc : ∀ (p : Fin 2048) (d : Fin 64), c (ix2 p d) = O (4096 + slot2 p.val) d.val) (t : Fin 512) (d : Fin 64) :
    grp8 a b c (ix2 t d) = O (12 * t.val + 8) d.val := by
  unfold grp8
  refine col8_at _ _ _ O t d ?_ ?_ ?_
  · intro i
    have e : ∀ x : Nat, x < 1538 → 1368 ≤ x → slot0 x = 12 * (x - 1368) + 8 := by
      intro x h1 h2
      unfold slot0; simp only [show ¬ x < 171 by omega, show ¬ x < 342 by omega, show ¬ x < 513 by omega, show ¬ x < 684 by omega, show ¬ x < 855 by omega, show ¬ x < 1026 by omega, show ¬ x < 1197 by omega, show ¬ x < 1368 by omega, show x < 1538 by omega, if_true, if_false]
    pointwise
    rw [ha]; congr 1; (try simp only []); rw [e _ (by omega) (by omega)]; omega
  · intro i
    have e : ∀ x : Nat, x < 1535 → 1364 ≤ x → slot1 x = 12 * (x - 1364) + 0 := by
      intro x h1 h2
      unfold slot1; simp only [show ¬ x < 171 by omega, show ¬ x < 342 by omega, show ¬ x < 513 by omega, show ¬ x < 684 by omega, show ¬ x < 854 by omega, show ¬ x < 1024 by omega, show ¬ x < 1194 by omega, show ¬ x < 1364 by omega, show x < 1535 by omega, if_true, if_false]
    pointwise
    rw [hb]; congr 1; (try simp only []); rw [e _ (by omega) (by omega)]; omega
  · intro i
    have e : ∀ x : Nat, x < 1535 → 1364 ≤ x → slot2 x = 12 * (x - 1364) + 4 := by
      intro x h1 h2
      unfold slot2; simp only [show ¬ x < 170 by omega, show ¬ x < 340 by omega, show ¬ x < 510 by omega, show ¬ x < 680 by omega, show ¬ x < 851 by omega, show ¬ x < 1022 by omega, show ¬ x < 1193 by omega, show ¬ x < 1364 by omega, show x < 1535 by omega, if_true, if_false]
    pointwise
    rw [hc]; congr 1; (try simp only []); rw [e _ (by omega) (by omega)]; omega

/-- Three pieces of column group 9 under one another. -/
theorem col9_at (x0 : FVec Ideal S170x64 .f32) (x1 : FVec Ideal S171x64 .f32) (x2 : FVec Ideal S171x64 .f32) (O : Nat → Nat → EReal) (t : Fin 512) (d : Fin 64)
    (h0 : ∀ i : Fin 170, x0 (ix2 i d) = O (12 * (0 + i.val) + 9) d.val)
    (h1 : ∀ i : Fin 171, x1 (ix2 i d) = O (12 * (170 + i.val) + 9) d.val)
    (h2 : ∀ i : Fin 171, x2 (ix2 i d) = O (12 * (341 + i.val) + 9) d.val)
    : concatenate S512x64 0 [⟨S170x64, x0⟩, ⟨S171x64, x1⟩, ⟨S171x64, x2⟩] concatenates_S170x64_S171x64_S171x64_S512x64_d0 (ix2 t d) = O (12 * t.val + 9) d.val := by
  pointwise
  by_cases c0 : t.val < 170
  · rw [dif_pos c0, h0]; congr 1; (try simp only []); omega
  rw [dif_neg c0]
  by_cases c1 : t.val - 170 < 171
  · rw [dif_pos c1, h1]; congr 1; (try simp only []); omega
  rw [dif_neg c1, h2]; congr 1; (try simp only []); omega

/-- Column group 9 of the block holds heads' rows `12 t + 9`. -/
theorem grp9_at (a b c : FVec Ideal S2048x64 .f32) (O : Nat → Nat → EReal)
    (ha : ∀ (p : Fin 2048) (d : Fin 64), a (ix2 p d) = O (slot0 p.val) d.val)
    (hb : ∀ (p : Fin 2048) (d : Fin 64), b (ix2 p d) = O (2048 + slot1 p.val) d.val)
    (hc : ∀ (p : Fin 2048) (d : Fin 64), c (ix2 p d) = O (4096 + slot2 p.val) d.val) (t : Fin 512) (d : Fin 64) :
    grp9 a b c (ix2 t d) = O (12 * t.val + 9) d.val := by
  unfold grp9
  refine col9_at _ _ _ O t d ?_ ?_ ?_
  · intro i
    have e : ∀ x : Nat, x < 1708 → 1538 ≤ x → slot0 x = 12 * (x - 1538) + 9 := by
      intro x h1 h2
      unfold slot0; simp only [show ¬ x < 171 by omega, show ¬ x < 342 by omega, show ¬ x < 513 by omega, show ¬ x < 684 by omega, show ¬ x < 855 by omega, show ¬ x < 1026 by omega, show ¬ x < 1197 by omega, show ¬ x < 1368 by omega, show ¬ x < 1538 by omega, show x < 1708 by omega, if_true, if_false]
    pointwise
    rw [ha]; congr 1; (try simp only []); rw [e _ (by omega) (by omega)]; omega
  · intro i
    have e : ∀ x : Nat, x < 1706 → 1535 ≤ x → slot1 x = 12 * (x - 1535) + 1 := by
      intro x h1 h2
      unfold slot1; simp only [show ¬ x < 171 by omega, show ¬ x < 342 by omega, show ¬ x < 513 by omega, show ¬ x < 684 by omega, show ¬ x < 854 by omega, show ¬ x < 1024 by omega, show ¬ x < 1194 by omega, show ¬ x < 1364 by omega, show ¬ x < 1535 by omega, show x < 1706 by omega, if_true, if_false]
    pointwise
    rw [hb]; congr 1; (try simp only []); rw [e _ (by omega) (by omega)]; omega
  · intro i
    have e : ∀ x : Nat, x < 1706 → 1535 ≤ x → slot2 x = 12 * (x - 1535) + 5 := by
      intro x h1 h2
      unfold slot2; simp only [show ¬ x < 170 by omega, show ¬ x < 340 by omega, show ¬ x < 510 by omega, show ¬ x < 680 by omega, show ¬ x < 851 by omega, show ¬ x < 1022 by omega, show ¬ x < 1193 by omega, show ¬ x < 1364 by omega, show ¬ x < 1535 by omega, show x < 1706 by omega, if_true, if_false]
    pointwise
    rw [hc]; congr 1; (try simp only []); rw [e _ (by omega) (by omega)]; omega

/-- Three pieces of column group 10 under one another. -/
theorem col10_at (x0 : FVec Ideal S170x64 .f32) (x1 : FVec Ideal S171x64 .f32) (x2 : FVec Ideal S171x64 .f32) (O : Nat → Nat → EReal) (t : Fin 512) (d : Fin 64)
    (h0 : ∀ i : Fin 170, x0 (ix2 i d) = O (12 * (0 + i.val) + 10) d.val)
    (h1 : ∀ i : Fin 171, x1 (ix2 i d) = O (12 * (170 + i.val) + 10) d.val)
    (h2 : ∀ i : Fin 171, x2 (ix2 i d) = O (12 * (341 + i.val) + 10) d.val)
    : concatenate S512x64 0 [⟨S170x64, x0⟩, ⟨S171x64, x1⟩, ⟨S171x64, x2⟩] concatenates_S170x64_S171x64_S171x64_S512x64_d0 (ix2 t d) = O (12 * t.val + 10) d.val := by
  pointwise
  by_cases c0 : t.val < 170
  · rw [dif_pos c0, h0]; congr 1; (try simp only []); omega
  rw [dif_neg c0]
  by_cases c1 : t.val - 170 < 171
  · rw [dif_pos c1, h1]; congr 1; (try simp only []); omega
  rw [dif_neg c1, h2]; congr 1; (try simp only []); omega

/-- Column group 10 of the block holds heads' rows `12 t + 10`. -/
theorem grp10_at (a b c : FVec Ideal S2048x64 .f32) (O : Nat → Nat → EReal)
    (ha : ∀ (p : Fin 2048) (d : Fin 64), a (ix2 p d) = O (slot0 p.val) d.val)
    (hb : ∀ (p : Fin 2048) (d : Fin 64), b (ix2 p d) = O (2048 + slot1 p.val) d.val)
    (hc : ∀ (p : Fin 2048) (d : Fin 64), c (ix2 p d) = O (4096 + slot2 p.val) d.val) (t : Fin 512) (d : Fin 64) :
    grp10 a b c (ix2 t d) = O (12 * t.val + 10) d.val := by
  unfold grp10
  refine col10_at _ _ _ O t d ?_ ?_ ?_
  · intro i
    have e : ∀ x : Nat, x < 1878 → 1708 ≤ x → slot0 x = 12 * (x - 1708) + 10 := by
      intro x h1 h2
      unfold slot0; simp only [show ¬ x < 171 by omega, show ¬ x < 342 by omega, show ¬ x < 513 by omega, show ¬ x < 684 by omega, show ¬ x < 855 by omega, show ¬ x < 1026 by omega, show ¬ x < 1197 by omega, show ¬ x < 1368 by omega, show ¬ x < 1538 by omega, show ¬ x < 1708 by omega, show x < 1878 by omega, if_true, if_false]
    pointwise
    rw [ha]; congr 1; (try simp only []); rw [e _ (by omega) (by omega)]; omega
  · intro i
    have e : ∀ x : Nat, x < 1877 → 1706 ≤ x → slot1 x = 12 * (x - 1706) + 2 := by
      intro x h1 h2
      unfold slot1; simp only [show ¬ x < 171 by omega, show ¬ x < 342 by omega, show ¬ x < 513 by omega, show ¬ x < 684 by omega, show ¬ x < 854 by omega, show ¬ x < 1024 by omega, show ¬ x < 1194 by omega, show ¬ x < 1364 by omega, show ¬ x < 1535 by omega, show ¬ x < 1706 by omega, show x < 1877 by omega, if_true, if_false]
    pointwise
    rw [hb]; congr 1; (try simp only []); rw [e _ (by omega) (by omega)]; omega
  · intro i
    have e : ∀ x : Nat, x < 1877 → 1706 ≤ x → slot2 x = 12 * (x - 1706) + 6 := by
      intro x h1 h2
      unfold slot2; simp only [show ¬ x < 170 by omega, show ¬ x < 340 by omega, show ¬ x < 510 by omega, show ¬ x < 680 by omega, show ¬ x < 851 by omega, show ¬ x < 1022 by omega, show ¬ x < 1193 by omega, show ¬ x < 1364 by omega, show ¬ x < 1535 by omega, show ¬ x < 1706 by omega, show x < 1877 by omega, if_true, if_false]
    pointwise
    rw [hc]; congr 1; (try simp only []); rw [e _ (by omega) (by omega)]; omega

/-- Three pieces of column group 11 under one another. -/
theorem col11_at (x0 : FVec Ideal S170x64 .f32) (x1 : FVec Ideal S171x64 .f32) (x2 : FVec Ideal S171x64 .f32) (O : Nat → Nat → EReal) (t : Fin 512) (d : Fin 64)
    (h0 : ∀ i : Fin 170, x0 (ix2 i d) = O (12 * (0 + i.val) + 11) d.val)
    (h1 : ∀ i : Fin 171, x1 (ix2 i d) = O (12 * (170 + i.val) + 11) d.val)
    (h2 : ∀ i : Fin 171, x2 (ix2 i d) = O (12 * (341 + i.val) + 11) d.val)
    : concatenate S512x64 0 [⟨S170x64, x0⟩, ⟨S171x64, x1⟩, ⟨S171x64, x2⟩] concatenates_S170x64_S171x64_S171x64_S512x64_d0 (ix2 t d) = O (12 * t.val + 11) d.val := by
  pointwise
  by_cases c0 : t.val < 170
  · rw [dif_pos c0, h0]; congr 1; (try simp only []); omega
  rw [dif_neg c0]
  by_cases c1 : t.val - 170 < 171
  · rw [dif_pos c1, h1]; congr 1; (try simp only []); omega
  rw [dif_neg c1, h2]; congr 1; (try simp only []); omega

/-- Column group 11 of the block holds heads' rows `12 t + 11`. -/
theorem grp11_at (a b c : FVec Ideal S2048x64 .f32) (O : Nat → Nat → EReal)
    (ha : ∀ (p : Fin 2048) (d : Fin 64), a (ix2 p d) = O (slot0 p.val) d.val)
    (hb : ∀ (p : Fin 2048) (d : Fin 64), b (ix2 p d) = O (2048 + slot1 p.val) d.val)
    (hc : ∀ (p : Fin 2048) (d : Fin 64), c (ix2 p d) = O (4096 + slot2 p.val) d.val) (t : Fin 512) (d : Fin 64) :
    grp11 a b c (ix2 t d) = O (12 * t.val + 11) d.val := by
  unfold grp11
  refine col11_at _ _ _ O t d ?_ ?_ ?_
  · intro i
    have e : ∀ x : Nat, x < 2048 → 1878 ≤ x → slot0 x = 12 * (x - 1878) + 11 := by
      intro x h1 h2
      unfold slot0; simp only [show ¬ x < 171 by omega, show ¬ x < 342 by omega, show ¬ x < 513 by omega, show ¬ x < 684 by omega, show ¬ x < 855 by omega, show ¬ x < 1026 by omega, show ¬ x < 1197 by omega, show ¬ x < 1368 by omega, show ¬ x < 1538 by omega, show ¬ x < 1708 by omega, show ¬ x < 1878 by omega, if_false]
    pointwise
    rw [ha]; congr 1; (try simp only []); rw [e _ (by omega) (by omega)]; omega
  · intro i
    have e : ∀ x : Nat, x < 2048 → 1877 ≤ x → slot1 x = 12 * (x - 1877) + 3 := by
      intro x h1 h2
      unfold slot1; simp only [show ¬ x < 171 by omega, show ¬ x < 342 by omega, show ¬ x < 513 by omega, show ¬ x < 684 by omega, show ¬ x < 854 by omega, show ¬ x < 1024 by omega, show ¬ x < 1194 by omega, show ¬ x < 1364 by omega, show ¬ x < 1535 by omega, show ¬ x < 1706 by omega, show ¬ x < 1877 by omega, if_false]
    pointwise
    rw [hb]; congr 1; (try simp only []); rw [e _ (by omega) (by omega)]; omega
  · intro i
    have e : ∀ x : Nat, x < 2048 → 1877 ≤ x → slot2 x = 12 * (x - 1877) + 7 := by
      intro x h1 h2
      unfold slot2; simp only [show ¬ x < 170 by omega, show ¬ x < 340 by omega, show ¬ x < 510 by omega, show ¬ x < 680 by omega, show ¬ x < 851 by omega, show ¬ x < 1022 by omega, show ¬ x < 1193 by omega, show ¬ x < 1364 by omega, show ¬ x < 1535 by omega, show ¬ x < 1706 by omega, show ¬ x < 1877 by omega, if_false]
    pointwise
    rw [hc]; congr 1; (try simp only []); rw [e _ (by omega) (by omega)]; omega

set_option maxHeartbeats 4000000 in
/-- Twelve column groups side by side. -/
theorem side_at (x0 : FVec Ideal S512x64 .f32) (x1 : FVec Ideal S512x64 .f32) (x2 : FVec Ideal S512x64 .f32) (x3 : FVec Ideal S512x64 .f32) (x4 : FVec Ideal S512x64 .f32) (x5 : FVec Ideal S512x64 .f32) (x6 : FVec Ideal S512x64 .f32) (x7 : FVec Ideal S512x64 .f32) (x8 : FVec Ideal S512x64 .f32) (x9 : FVec Ideal S512x64 .f32) (x10 : FVec Ideal S512x64 .f32) (x11 : FVec Ideal S512x64 .f32) (O : Nat → Nat → EReal) (t : Fin 512) (e : Fin 768)
    (h0 : ∀ d : Fin 64, x0 (ix2 t d) = O (12 * t.val + 0) d.val)
    (h1 : ∀ d : Fin 64, x1 (ix2 t d) = O (12 * t.val + 1) d.val)
    (h2 : ∀ d : Fin 64, x2 (ix2 t d) = O (12 * t.val + 2) d.val)
    (h3 : ∀ d : Fin 64, x3 (ix2 t d) = O (12 * t.val + 3) d.val)
    (h4 : ∀ d : Fin 64, x4 (ix2 t d) = O (12 * t.val + 4) d.val)
    (h5 : ∀ d : Fin 64, x5 (ix2 t d) = O (12 * t.val + 5) d.val)
    (h6 : ∀ d : Fin 64, x6 (ix2 t d) = O (12 * t.val + 6) d.val)
    (h7 : ∀ d : Fin 64, x7 (ix2 t d) = O (12 * t.val + 7) d.val)
    (h8 : ∀ d : Fin 64, x8 (ix2 t d) = O (12 * t.val + 8) d.val)
    (h9 : ∀ d : Fin 64, x9 (ix2 t d) = O (12 * t.val + 9) d.val)
    (h10 : ∀ d : Fin 64, x10 (ix2 t d) = O (12 * t.val + 10) d.val)
    (h11 : ∀ d : Fin 64, x11 (ix2 t d) = O (12 * t.val + 11) d.val)
    : concatenate S512x768 1 [⟨S512x64, x0⟩, ⟨S512x64, x1⟩, ⟨S512x64, x2⟩, ⟨S512x64, x3⟩, ⟨S512x64, x4⟩, ⟨S512x64, x5⟩, ⟨S512x64, x6⟩, ⟨S512x64, x7⟩, ⟨S512x64, x8⟩, ⟨S512x64, x9⟩, ⟨S512x64, x10⟩, ⟨S512x64, x11⟩] concatenates_S512x64_S512x64_S512x64_S512x64_S512x64_S512x64_S512x64_S512x64_S512x64_S512x64_S512x64_S512x64_S512x768_d1 (ix2 t e) = O (12 * t.val + e.val / 64) (e.val % 64) := by
  pointwise
  by_cases c0 : e.val < 64
  · rw [dif_pos c0, h0]; congr 1 <;> (try simp only []) <;> omega
  rw [dif_neg c0]
  by_cases c1 : e.val - 64 < 64
  · rw [dif_pos c1, h1]; congr 1 <;> (try simp only []) <;> omega
  rw [dif_neg c1]
  by_cases c2 : e.val - 64 - 64 < 64
  · rw [dif_pos c2, h2]; congr 1 <;> (try simp only []) <;> omega
  rw [dif_neg c2]
  by_cases c3 : e.val - 64 - 64 - 64 < 64
  · rw [dif_pos c3, h3]; congr 1 <;> (try simp only []) <;> omega
  rw [dif_neg c3]
  by_cases c4 : e.val - 64 - 64 - 64 - 64 < 64
  · rw [dif_pos c4, h4]; congr 1 <;> (try simp only []) <;> omega
  rw [dif_neg c4]
  by_cases c5 : e.val - 64 - 64 - 64 - 64 - 64 < 64
  · rw [dif_pos c5, h5]; congr 1 <;> (try simp only []) <;> omega
  rw [dif_neg c5]
  by_cases c6 : e.val - 64 - 64 - 64 - 64 - 64 - 64 < 64
  · rw [dif_pos c6, h6]; congr 1 <;> (try simp only []) <;> omega
  rw [dif_neg c6]
  by_cases c7 : e.val - 64 - 64 - 64 - 64 - 64 - 64 - 64 < 64
  · rw [dif_pos c7, h7]; congr 1 <;> (try simp only []) <;> omega
  rw [dif_neg c7]
  by_cases c8 : e.val - 64 - 64 - 64 - 64 - 64 - 64 - 64 - 64 < 64
  · rw [dif_pos c8, h8]; congr 1 <;> (try simp only []) <;> omega
  rw [dif_neg c8]
  by_cases c9 : e.val - 64 - 64 - 64 - 64 - 64 - 64 - 64 - 64 - 64 < 64
  · rw [dif_pos c9, h9]; congr 1 <;> (try simp only []) <;> omega
  rw [dif_neg c9]
  by_cases c10 : e.val - 64 - 64 - 64 - 64 - 64 - 64 - 64 - 64 - 64 - 64 < 64
  · rw [dif_pos c10, h10]; congr 1 <;> (try simp only []) <;> omega
  rw [dif_neg c10]
  rw [h11]; congr 1 <;> (try simp only []) <;> omega

/-- The block at an index, from what the three slices hold at each slot. -/
theorem unstk_at (a b c : FVec Ideal S2048x64 .f32) (O : Nat → Nat → EReal)
    (ha : ∀ (p : Fin 2048) (d : Fin 64), a (ix2 p d) = O (slot0 p.val) d.val)
    (hb : ∀ (p : Fin 2048) (d : Fin 64), b (ix2 p d) = O (2048 + slot1 p.val) d.val)
    (hc : ∀ (p : Fin 2048) (d : Fin 64), c (ix2 p d) = O (4096 + slot2 p.val) d.val) (t : Fin 512) (e : Fin 768) :
    unstk a b c (ix2 t e) = O (12 * t.val + e.val / 64) (e.val % 64) := by
  unfold unstk
  exact side_at _ _ _ _ _ _ _ _ _ _ _ _ O t e (grp0_at a b c O ha hb hc t) (grp1_at a b c O ha hb hc t) (grp2_at a b c O ha hb hc t) (grp3_at a b c O ha hb hc t) (grp4_at a b c O ha hb hc t) (grp5_at a b c O ha hb hc t) (grp6_at a b c O ha hb hc t) (grp7_at a b c O ha hb hc t) (grp8_at a b c O ha hb hc t) (grp9_at a b c O ha hb hc t) (grp10_at a b c O ha hb hc t) (grp11_at a b c O ha hb hc t)

end Cert.KernelIdeal.Value

end
-- ==== Proof.BlockValue.lean ====
/- The second body's output block, read at an index. -/
module

public import proofs.«01_k».proof.Proof.PagesValue
public import proofs.«01_k».proof.Proof.UnstackValue
public import proofs.«01_k».proof.Proof.KernelIdealStage2
public import Idealize.ShloMosaic.Lib.Pipeline.ValueKit

@[expose] public section

set_option maxRecDepth 16384

noncomputable section

namespace Cert.KernelIdeal.Value

open Idealize.ShloMosaic Idealize.ShloMosaic.TcCoe
open Cert.KernelIdeal Cert.KernelIdeal.Gen Cert.KernelIdeal.Run Cert.Slots Cert.Spec

/-- Page 0 of a block of three. -/
theorem ld_page0 (q : FVec Ideal S3x2048x64 .bf16) (p : Fin 2048) (d : Fin 64) : (show FVec Ideal S1x2048x64 .bf16 from View.ld (Val := Elt Ideal) (e' := .bf16) q rp0) (ix3 0 p d) = q (ix3 0 p d) := by
    refine View.ld_unit_apply_of (S := S3x2048x64) (Val := Elt Ideal) (e := .bf16) q _ _ _ _ _ fun a => ?_
    change Fin 3 at a
    match a with
    | ⟨0, _⟩ => rfl
    | ⟨1, _⟩ => exact (Nat.zero_add _).symm
    | ⟨2, _⟩ => exact (Nat.zero_add _).symm
/-- Page 1 of a block of three. -/
theorem ld_page1 (q : FVec Ideal S3x2048x64 .bf16) (p : Fin 2048) (d : Fin 64) : (show FVec Ideal S1x2048x64 .bf16 from View.ld (Val := Elt Ideal) (e' := .bf16) q rp1) (ix3 0 p d) = q (ix3 1 p d) := by
    refine View.ld_unit_apply_of (S := S3x2048x64) (Val := Elt Ideal) (e := .bf16) q _ _ _ _ _ fun a => ?_
    change Fin 3 at a
    match a with
    | ⟨0, _⟩ => rfl
    | ⟨1, _⟩ => exact (Nat.zero_add _).symm
    | ⟨2, _⟩ => exact (Nat.zero_add _).symm
/-- Page 2 of a block of three. -/
theorem ld_page2 (q : FVec Ideal S3x2048x64 .bf16) (p : Fin 2048) (d : Fin 64) : (show FVec Ideal S1x2048x64 .bf16 from View.ld (Val := Elt Ideal) (e' := .bf16) q rp2) (ix3 0 p d) = q (ix3 2 p d) := by
    refine View.ld_unit_apply_of (S := S3x2048x64) (Val := Elt Ideal) (e := .bf16) q _ _ _ _ _ fun a => ?_
    change Fin 3 at a
    match a with
    | ⟨0, _⟩ => rfl
    | ⟨1, _⟩ => exact (Nat.zero_add _).symm
    | ⟨2, _⟩ => exact (Nat.zero_add _).symm

/-- The first three rows of the wide table and the three columns of the tall one. -/
theorem tab_row0 (tab : IVec S24x2048 32) (p : Fin 2048) : extractStridedSlice S1x2048 ![0, 0] tab slices_S24x2048_o0_0_S1x2048 (ix2 0 p) = tab (ix2 0 p) := by pointwise
/-- Row 1 of the wide table. -/
theorem tab_row1 (tab : IVec S24x2048 32) (p : Fin 2048) : extractStridedSlice S1x2048 ![1, 0] tab slices_S24x2048_o1_0_S1x2048 (ix2 0 p) = tab (ix2 1 p) := by pointwise
/-- Row 2 of the wide table. -/
theorem tab_row2 (tab : IVec S24x2048 32) (p : Fin 2048) : extractStridedSlice S1x2048 ![2, 0] tab slices_S24x2048_o2_0_S1x2048 (ix2 0 p) = tab (ix2 2 p) := by pointwise
/-- Column 0 of the tall table. -/
theorem tab_col0 (tab : IVec S2048x3 32) (p : Fin 2048) : extractStridedSlice S2048x1 ![0, 0] tab slices_S2048x3_o0_0_S2048x1 (ix2 p 0) = tab (ix2 p 0) := by pointwise
/-- Column 1 of the tall table. -/
theorem tab_col1 (tab : IVec S2048x3 32) (p : Fin 2048) : extractStridedSlice S2048x1 ![0, 1] tab slices_S2048x3_o0_1_S2048x1 (ix2 p 0) = tab (ix2 p 1) := by pointwise
/-- Column 2 of the tall table. -/
theorem tab_col2 (tab : IVec S2048x3 32) (p : Fin 2048) : extractStridedSlice S2048x1 ![0, 2] tab slices_S2048x3_o0_2_S2048x1 (ix2 p 0) = tab (ix2 p 2) := by pointwise

/-- The word of a head's number. -/
theorem rowOf_hd (I : grid1.Coords) (g : Fin 8) (hI : (I 0).val = g.val) (r : Fin 3) :
    rowOf I (BitVec.ofNat 32 r.val) = BitVec.ofNat 32 (hd g r).val := by
  unfold rowOf
  rw [hI]
  clear hI
  revert r g
  decide

/-- The outputs of block `g`'s three heads one after the other, as a function of plain numbers. -/
def outs (O : Fin 24 → Fin 2048 → Fin 64 → EReal) (g : Fin 8) (n d : Nat) : EReal :=
  if h : n < 6144 ∧ d < 64 then O (hd g ⟨n / 2048, by omega⟩) ⟨n % 2048, by omega⟩ ⟨d, h.2⟩ else 0

/-- The block's outputs at a slot of slice `r`: the output of that head at that row. -/
theorem outs_slot (O : Fin 24 → Fin 2048 → Fin 64 → EReal) (g : Fin 8) (r : Fin 3) (p : Fin 2048) (d : Fin 64) :
    outs O g (2048 * r.val + (slot r p).val) d.val = O (hd g r) (slot r p) d := by
  have hp := (slot r p).isLt
  have hr := r.isLt
  unfold outs
  rw [dif_pos (⟨by omega, d.isLt⟩ : 2048 * r.val + (slot r p).val < 6144 ∧ d.val < 64)]
  have e1 : (⟨(2048 * r.val + (slot r p).val) / 2048, by omega⟩ : Fin 3) = r := Fin.ext (by show (2048 * r.val + (slot r p).val) / 2048 = r.val; omega)
  have e2 : (⟨(2048 * r.val + (slot r p).val) % 2048, by omega⟩ : Fin 2048) = slot r p := Fin.ext (by show (2048 * r.val + (slot r p).val) % 2048 = (slot r p).val; omega)
  rw [e1, e2]

/-- The block's outputs read in the order of a row of the block are the flattened heads. -/
theorem outs_flat (O : Fin 24 → Fin 2048 → Fin 64 → EReal) (g : Fin 8) (t : Fin 512) (e : Fin 768) :
    outs O g (12 * t.val + e.val / 64) (e.val % 64) = flat O (brow g t) e := by
  unfold outs flat
  rw [dif_pos (⟨by omega, by omega⟩ : 12 * t.val + e.val / 64 < 6144 ∧ e.val % 64 < 64)]
  congr 1
  · apply Fin.ext
    show 3 * g.val + (12 * t.val + e.val / 64) / 2048 = (12 * (512 * g.val + t.val) + e.val / 64) / 2048
    omega
  · apply Fin.ext
    show (12 * t.val + e.val / 64) % 2048 = (12 * (512 * g.val + t.val) + e.val / 64) % 2048
    omega

/-- The second body's block: the attended values of the three heads, put back in order and projected. -/
theorem res_at (I : grid1.Coords) (g : Fin 8) (hI : (I 0).val = g.val)
    (idx : IVec S24x64 32) (tab : IVec S24x2048 32) (tabT : IVec S2048x3 32) (Q K V : FVec Ideal S3x2048x64 .bf16)
    (w : FVec Ideal S768x768 .f32) (b : FVec Ideal S1x768 .f32)
    (q k v : Fin 24 → Fin 2048 → Fin 64 → EReal) (i : Fin 24 → Fin 64 → Fin 2048)
    (hidx : ∀ j l, idx (ix2 j l) = BitVec.ofNat 32 (i j l).val) (hi : ∀ j, Top (score (q j) (k j)) (i j))
    (htab : ∀ (j : Fin 24) (p : Fin 2048), tab (ix2 j p) = BitVec.ofNat 32 (slot (sl j) p).val)
    (htabT : ∀ (p : Fin 2048) (r : Fin 3), tabT (ix2 p r) = BitVec.ofNat 32 (slot r p).val)
    (hQ : ∀ r p d, Q (ix3 r p d) = q (hd g r) (slot r p) d) (hK : ∀ r p d, K (ix3 r p d) = k (hd g r) (slot r p) d)
    (hV : ∀ r p d, V (ix3 r p d) = v (hd g r) (slot r p) d) (t : Fin 512) (c : Fin 768) :
    res (F := Ideal) I idx tab tabT Q K V w b (ix2 t c)
      = (∑ e : Fin 768, flat (fun j => out (q j) (k j) (v j)) (brow g t) e * w (ix2 e c)) + b (ix2 0 c) := by
  unfold res
  refine (linP_at _ w b t c).trans ?_
  refine congrArg (· + b (ix2 0 c)) (Finset.sum_congr rfl fun e _ => congrArg (· * w (ix2 e c)) ?_)
  refine (unstk_at _ _ _ (outs (fun j => out (q j) (k j) (v j)) g) (fun p d => ?_) (fun p d => ?_) (fun p d => ?_) t e).trans (outs_flat _ g t e)
  · have o := outs_slot (fun j => out (q j) (k j) (v j)) g 0 p d
    rw [show 2048 * (0 : Fin 3).val + (slot 0 p).val = slot0 p.val from Nat.zero_add _] at o
    rw [o]
    exact head_at _ _ _ _ _ _ (slot 0) (q (hd g 0)) (k (hd g 0)) (v (hd g 0)) (i (hd g 0))
      (fun p d => (ld_page0 Q p d).trans (hQ 0 p d)) (fun p d => (ld_page0 K p d).trans (hK 0 p d)) (fun p d => (ld_page0 V p d).trans (hV 0 p d))
      (pick_at idx i hidx _ (hd g 0) (rowOf_hd I g hI 0)) (fun p => (tab_row0 tab p).trans (htab 0 p)) (fun p => (tab_col0 tabT p).trans (htabT p 0)) (hi _) p d
  · have o := outs_slot (fun j => out (q j) (k j) (v j)) g 1 p d
    rw [show 2048 * (1 : Fin 3).val + (slot 1 p).val = 2048 + slot1 p.val from rfl] at o
    rw [o]
    exact head_at _ _ _ _ _ _ (slot 1) (q (hd g 1)) (k (hd g 1)) (v (hd g 1)) (i (hd g 1))
      (fun p d => (ld_page1 Q p d).trans (hQ 1 p d)) (fun p d => (ld_page1 K p d).trans (hK 1 p d)) (fun p d => (ld_page1 V p d).trans (hV 1 p d))
      (pick_at idx i hidx _ (hd g 1) (rowOf_hd I g hI 1)) (fun p => (tab_row1 tab p).trans (htab 1 p)) (fun p => (tab_col1 tabT p).trans (htabT p 1)) (hi _) p d
  · have o := outs_slot (fun j => out (q j) (k j) (v j)) g 2 p d
    rw [show 2048 * (2 : Fin 3).val + (slot 2 p).val = 4096 + slot2 p.val from rfl] at o
    rw [o]
    exact head_at _ _ _ _ _ _ (slot 2) (q (hd g 2)) (k (hd g 2)) (v (hd g 2)) (i (hd g 2))
      (fun p d => (ld_page2 Q p d).trans (hQ 2 p d)) (fun p d => (ld_page2 K p d).trans (hK 2 p d)) (fun p d => (ld_page2 V p d).trans (hV 2 p d))
      (pick_at idx i hidx _ (hd g 2) (rowOf_hd I g hI 2)) (fun p => (tab_row2 tab p).trans (htab 2 p)) (fun p => (tab_col2 tabT p).trans (htabT p 2)) (hi _) p d

end Cert.KernelIdeal.Value
-- ==== Proof.ChoiceValue.lean ====
/- The sixty-four rounds of the choice leave, for every head, the sixty-four rows that every other row comes before. -/
module

public import proofs.«01_k».proof.Proof.KernelIdealBody
public import proofs.«01_k».proof.Proof.Choice
public import Idealize.ShloMosaic.Lib.Pointwise

@[expose] public section

set_option maxRecDepth 16384

noncomputable section

namespace Cert.KernelIdeal.Value

open Cert.KernelIdeal.Gen Cert.KernelIdeal.Run Cert.Spec
open Idealize.ShloMosaic Idealize.ShloMosaic.TcCoe Idealize.SL.Sem

/-- The word one round chooses for head `j`. -/
theorem pay4_at (tab : IVec S24x2048 32) (v : FVec Ideal S24x2048 .f32) (j : Fin 24) :
    k1_pay4 (F := Ideal) tab v (ix2 j 0) = pickWord (fun p => tab (ix2 j p)) (fun p => v (ix2 j p)) := by
  pointwise [k1_pay4, minf]
  rfl

/-- A select on the comparison of two words for equality. -/
theorem select_eq {α : Type} (x y : BitVec 32) (a b : α) : Scalar.select (IntOp.cmpi CmpIPredicate.eq x y) a b = if x = y then a else b := by
  by_cases h : x = y
  · simp [h, Scalar.select, IntOp.cmpi]
  · have hb : (x == y) = false := beq_eq_false_iff_ne.mpr h
    simp [h, hb, Scalar.select, IntOp.cmpi]

/-- The entries after one round. -/
theorem pay5_at (tab : IVec S24x2048 32) (k : Fin k1_t1_loop.trips) (v : FVec Ideal S24x2048 .f32) (acc : IVec S24x64 32) (j : Fin 24) (l : Fin 64) :
    k1_pay5 (F := Ideal) tab k v acc (ix2 j l) = if l.val = k.val then pickWord (fun p => tab (ix2 j p)) (fun p => v (ix2 j p)) else acc (ix2 j l) := by
  have ht : k1_t1_loop.trips = 64 := by decide
  have hk : k.val < 64 := ht ▸ k.isLt
  have hw : (BitVec.ofNat 32 l.val = Scf.iv 0#32 1#32 k.val) ↔ l.val = k.val := by
    unfold Scf.iv
    rw [BitVec.zero_add, BitVec.mul_one]
    constructor
    · intro h
      have := congrArg BitVec.toNat h
      rw [BitVec.toNat_ofNat, BitVec.toNat_ofNat] at this
      omega
    · intro h; rw [h]
  pointwise [k1_pay5, pay4_at]
  rw [select_eq]
  exact if_congr hw rfl rfl

/-- The scores after one round. -/
theorem pay6_at (tab : IVec S24x2048 32) (v : FVec Ideal S24x2048 .f32) (j : Fin 24) (p : Fin 2048) :
    k1_pay6 (F := Ideal) tab v (ix2 j p) = if tab (ix2 j p) = pickWord (fun p => tab (ix2 j p)) (fun p => v (ix2 j p)) then ⊥ else v (ix2 j p) := by
  pointwise [k1_pay6, pay4_at, minf]
  exact select_eq _ _ _ _

/-- The scores reshaped to two axes, at an index. -/
theorem pay2_at (m : FVec Ideal S24x1x2048 .f32) (j : Fin 24) (p : Fin 2048) :
    k1_pay2 (F := Ideal) m (ix2 j p) = m (ix3 j 0 p) := by
  pointwise [k1_pay2]

/-- The stored positions are the computed ones. -/
theorem pay7_at (a : IVec S24x64 32) (j : Fin 24) (l : Fin 64) : k1_pay7 a (ix2 j l) = a (ix2 j l) := by
  pointwise [k1_pay7]

/-- The chosen positions of head `j` are the words of the sixty-four rows that every other row comes before. -/
theorem topk_at (tab : IVec S24x2048 32) (m : FVec Ideal S24x1x2048 .f32) (M : Fin 24 → Fin 2048 → EReal) (σ : Fin 24 → Equiv.Perm (Fin 2048))
    (htab : ∀ j p, tab (ix2 j p) = BitVec.ofNat 32 (σ j p).val) (hm : ∀ j p, m (ix3 j 0 p) = M j (σ j p)) (hM : ∀ j n, M j n ≠ ⊥) (j : Fin 24) :
    ∃ i, Top (M j) i ∧ ∀ l, topk (F := Ideal) tab m (ix2 j l) = BitVec.ofNat 32 (i l).val := by
  have ht : k1_t1_loop.trips = 64 := by decide
  have key : Inv (M j) (σ j) k1_t1_loop.trips (fun p => (Scf.fold (trip (F := Ideal) tab) (k1_pay2 m, k1_pay3)).1 (ix2 j p))
      (fun l => (Scf.fold (trip (F := Ideal) tab) (k1_pay2 m, k1_pay3)).2 (ix2 j l)) := by
    rw [Scf.fold_eq]
    refine foldl_inv k1_t1_loop.trips (trip (F := Ideal) tab) (fun k acc => Inv (M j) (σ j) k (fun p => acc.1 (ix2 j p)) (fun l => acc.2 (ix2 j l)))
      (k1_pay2 m, k1_pay3) ?_ ?_
    · exact Inv.zero _ _ _ (fun p => (pay2_at m j p).trans (hm j p)) _
    · intro k acc h
      have hk : k.val < 64 := lt_of_lt_of_eq k.isLt ht
      obtain ⟨v, a⟩ := acc
      have h6 : ∀ p, k1_pay6 (F := Ideal) tab v (ix2 j p) = _ := fun p => pay6_at tab v j p
      have h5 : ∀ l, k1_pay5 (F := Ideal) tab k v a (ix2 j l) = _ := fun l => pay5_at tab k v a j l
      generalize hkk : k.val = n at h hk h5 ⊢
      have e : trip (F := Ideal) tab k (v, a) = (k1_pay6 tab v, k1_pay5 tab k v a) := rfl
      dsimp only at h ⊢
      rw [e]
      dsimp only
      exact Inv.step h hk (hM j) (fun p => tab (ix2 j p)) (htab j) _ h6 _ h5
  obtain ⟨i, hi, hw⟩ := key.top ht
  exact ⟨i, hi, fun l => (pay7_at _ j l).trans (hw l)⟩

end Cert.KernelIdeal.Value

end
-- ==== Proof.WideA.lean ====
/- The wide table lists the row of every slot, heads 0 to 7. -/
module

public import proofs.«01_k».proof.Proof.Slots

@[expose] public section

set_option maxRecDepth 16384

namespace Cert.Slots

/-- Row 0 of the wide table. -/
theorem wide0 : ∀ p : Fin 2048, KernelIdeal.lit0t (2048 * 0 + p.val) = BitVec.ofNat 32 (slotN 0 p.val) := by
  decide +kernel
/-- Row 1 of the wide table. -/
theorem wide1 : ∀ p : Fin 2048, KernelIdeal.lit0t (2048 * 1 + p.val) = BitVec.ofNat 32 (slotN 1 p.val) := by
  decide +kernel
/-- Row 2 of the wide table. -/
theorem wide2 : ∀ p : Fin 2048, KernelIdeal.lit0t (2048 * 2 + p.val) = BitVec.ofNat 32 (slotN 2 p.val) := by
  decide +kernel
/-- Row 3 of the wide table. -/
theorem wide3 : ∀ p : Fin 2048, KernelIdeal.lit0t (2048 * 3 + p.val) = BitVec.ofNat 32 (slotN 0 p.val) := by
  decide +kernel
/-- Row 4 of the wide table. -/
theorem wide4 : ∀ p : Fin 2048, KernelIdeal.lit0t (2048 * 4 + p.val) = BitVec.ofNat 32 (slotN 1 p.val) := by
  decide +kernel
/-- Row 5 of the wide table. -/
theorem wide5 : ∀ p : Fin 2048, KernelIdeal.lit0t (2048 * 5 + p.val) = BitVec.ofNat 32 (slotN 2 p.val) := by
  decide +kernel
/-- Row 6 of the wide table. -/
theorem wide6 : ∀ p : Fin 2048, KernelIdeal.lit0t (2048 * 6 + p.val) = BitVec.ofNat 32 (slotN 0 p.val) := by
  decide +kernel
/-- Row 7 of the wide table. -/
theorem wide7 : ∀ p : Fin 2048, KernelIdeal.lit0t (2048 * 7 + p.val) = BitVec.ofNat 32 (slotN 1 p.val) := by
  decide +kernel

end Cert.Slots

end
-- ==== Proof.WideB.lean ====
/- The wide table lists the row of every slot, heads 8 to 15. -/
module

public import proofs.«01_k».proof.Proof.Slots

@[expose] public section

set_option maxRecDepth 16384

namespace Cert.Slots

/-- Row 8 of the wide table. -/
theorem wide8 : ∀ p : Fin 2048, KernelIdeal.lit0t (2048 * 8 + p.val) = BitVec.ofNat 32 (slotN 2 p.val) := by
  decide +kernel
/-- Row 9 of the wide table. -/
theorem wide9 : ∀ p : Fin 2048, KernelIdeal.lit0t (2048 * 9 + p.val) = BitVec.ofNat 32 (slotN 0 p.val) := by
  decide +kernel
/-- Row 10 of the wide table. -/
theorem wide10 : ∀ p : Fin 2048, KernelIdeal.lit0t (2048 * 10 + p.val) = BitVec.ofNat 32 (slotN 1 p.val) := by
  decide +kernel
/-- Row 11 of the wide table. -/
theorem wide11 : ∀ p : Fin 2048, KernelIdeal.lit0t (2048 * 11 + p.val) = BitVec.ofNat 32 (slotN 2 p.val) := by
  decide +kernel
/-- Row 12 of the wide table. -/
theorem wide12 : ∀ p : Fin 2048, KernelIdeal.lit0t (2048 * 12 + p.val) = BitVec.ofNat 32 (slotN 0 p.val) := by
  decide +kernel
/-- Row 13 of the wide table. -/
theorem wide13 : ∀ p : Fin 2048, KernelIdeal.lit0t (2048 * 13 + p.val) = BitVec.ofNat 32 (slotN 1 p.val) := by
  decide +kernel
/-- Row 14 of the wide table. -/
theorem wide14 : ∀ p : Fin 2048, KernelIdeal.lit0t (2048 * 14 + p.val) = BitVec.ofNat 32 (slotN 2 p.val) := by
  decide +kernel
/-- Row 15 of the wide table. -/
theorem wide15 : ∀ p : Fin 2048, KernelIdeal.lit0t (2048 * 15 + p.val) = BitVec.ofNat 32 (slotN 0 p.val) := by
  decide +kernel

end Cert.Slots

end
-- ==== Proof.WideC.lean ====
/- The wide table lists the row of every slot, heads 16 to 23. -/
module

public import proofs.«01_k».proof.Proof.Slots

@[expose] public section

set_option maxRecDepth 16384

namespace Cert.Slots

/-- Row 16 of the wide table. -/
theorem wide16 : ∀ p : Fin 2048, KernelIdeal.lit0t (2048 * 16 + p.val) = BitVec.ofNat 32 (slotN 1 p.val) := by
  decide +kernel
/-- Row 17 of the wide table. -/
theorem wide17 : ∀ p : Fin 2048, KernelIdeal.lit0t (2048 * 17 + p.val) = BitVec.ofNat 32 (slotN 2 p.val) := by
  decide +kernel
/-- Row 18 of the wide table. -/
theorem wide18 : ∀ p : Fin 2048, KernelIdeal.lit0t (2048 * 18 + p.val) = BitVec.ofNat 32 (slotN 0 p.val) := by
  decide +kernel
/-- Row 19 of the wide table. -/
theorem wide19 : ∀ p : Fin 2048, KernelIdeal.lit0t (2048 * 19 + p.val) = BitVec.ofNat 32 (slotN 1 p.val) := by
  decide +kernel
/-- Row 20 of the wide table. -/
theorem wide20 : ∀ p : Fin 2048, KernelIdeal.lit0t (2048 * 20 + p.val) = BitVec.ofNat 32 (slotN 2 p.val) := by
  decide +kernel
/-- Row 21 of the wide table. -/
theorem wide21 : ∀ p : Fin 2048, KernelIdeal.lit0t (2048 * 21 + p.val) = BitVec.ofNat 32 (slotN 0 p.val) := by
  decide +kernel
/-- Row 22 of the wide table. -/
theorem wide22 : ∀ p : Fin 2048, KernelIdeal.lit0t (2048 * 22 + p.val) = BitVec.ofNat 32 (slotN 1 p.val) := by
  decide +kernel
/-- Row 23 of the wide table. -/
theorem wide23 : ∀ p : Fin 2048, KernelIdeal.lit0t (2048 * 23 + p.val) = BitVec.ofNat 32 (slotN 2 p.val) := by
  decide +kernel

end Cert.Slots

end
-- ==== Proof.Tables.lean ====
/- The two tables of the program, read at an index: the slots of every head and of every slice. -/
module

public import proofs.«01_k».proof.Proof.WideA
public import proofs.«01_k».proof.Proof.WideB
public import proofs.«01_k».proof.Proof.WideC
public import Idealize.ShloMosaic.Lib.Pointwise

@[expose] public section

set_option maxRecDepth 16384

noncomputable section

namespace Cert.Slots

open Idealize.ShloMosaic

/-- One head's row of the wide table, from the statement about its number. -/
theorem wide_of (j : Fin 24) (p : Fin 2048) (a : Nat) (ha : j.val = a) (r : Fin 3) (hr : a % 3 = r.val)
    (h : KernelIdeal.lit0t (2048 * a + p.val) = BitVec.ofNat 32 (slotN r p.val)) :
    KernelIdeal.lit0t (2048 * j.val + p.val) = BitVec.ofNat 32 (slot (sl j) p).val := by
  have hs : sl j = r := Fin.ext (by show j.val % 3 = r.val; rw [ha]; exact hr)
  rw [slot_val, hs, ha]
  exact h

/-- The wide table holds the slots of every head. -/
theorem wide_head (j : Fin 24) (p : Fin 2048) : KernelIdeal.lit0t (2048 * j.val + p.val) = BitVec.ofNat 32 (slot (sl j) p).val := by
  match j with
  | ⟨0, h⟩ => exact wide_of ⟨0, h⟩ p 0 rfl 0 (by decide) (wide0 p)
  | ⟨1, h⟩ => exact wide_of ⟨1, h⟩ p 1 rfl 1 (by decide) (wide1 p)
  | ⟨2, h⟩ => exact wide_of ⟨2, h⟩ p 2 rfl 2 (by decide) (wide2 p)
  | ⟨3, h⟩ => exact wide_of ⟨3, h⟩ p 3 rfl 0 (by decide) (wide3 p)
  | ⟨4, h⟩ => exact wide_of ⟨4, h⟩ p 4 rfl 1 (by decide) (wide4 p)
  | ⟨5, h⟩ => exact wide_of ⟨5, h⟩ p 5 rfl 2 (by decide) (wide5 p)
  | ⟨6, h⟩ => exact wide_of ⟨6, h⟩ p 6 rfl 0 (by decide) (wide6 p)
  | ⟨7, h⟩ => exact wide_of ⟨7, h⟩ p 7 rfl 1 (by decide) (wide7 p)
  | ⟨8, h⟩ => exact wide_of ⟨8, h⟩ p 8 rfl 2 (by decide) (wide8 p)
  | ⟨9, h⟩ => exact wide_of ⟨9, h⟩ p 9 rfl 0 (by decide) (wide9 p)
  | ⟨10, h⟩ => exact wide_of ⟨10, h⟩ p 10 rfl 1 (by decide) (wide10 p)
  | ⟨11, h⟩ => exact wide_of ⟨11, h⟩ p 11 rfl 2 (by decide) (wide11 p)
  | ⟨12, h⟩ => exact wide_of ⟨12, h⟩ p 12 rfl 0 (by decide) (wide12 p)
  | ⟨13, h⟩ => exact wide_of ⟨13, h⟩ p 13 rfl 1 (by decide) (wide13 p)
  | ⟨14, h⟩ => exact wide_of ⟨14, h⟩ p 14 rfl 2 (by decide) (wide14 p)
  | ⟨15, h⟩ => exact wide_of ⟨15, h⟩ p 15 rfl 0 (by decide) (wide15 p)
  | ⟨16, h⟩ => exact wide_of ⟨16, h⟩ p 16 rfl 1 (by decide) (wide16 p)
  | ⟨17, h⟩ => exact wide_of ⟨17, h⟩ p 17 rfl 2 (by decide) (wide17 p)
  | ⟨18, h⟩ => exact wide_of ⟨18, h⟩ p 18 rfl 0 (by decide) (wide18 p)
  | ⟨19, h⟩ => exact wide_of ⟨19, h⟩ p 19 rfl 1 (by decide) (wide19 p)
  | ⟨20, h⟩ => exact wide_of ⟨20, h⟩ p 20 rfl 2 (by decide) (wide20 p)
  | ⟨21, h⟩ => exact wide_of ⟨21, h⟩ p 21 rfl 0 (by decide) (wide21 p)
  | ⟨22, h⟩ => exact wide_of ⟨22, h⟩ p 22 rfl 1 (by decide) (wide22 p)
  | ⟨23, h⟩ => exact wide_of ⟨23, h⟩ p 23 rfl 2 (by decide) (wide23 p)
  | ⟨n + 24, h⟩ => exact absurd h (by omega)

/-- The wide table by plain position. -/
theorem lit0_val (i : Fin 49152) : KernelIdeal.lit0 i = KernelIdeal.lit0t i.val := by
  obtain ⟨i, h⟩ := i
  rw [KernelIdeal.lit0]

/-- The wide table at an index. -/
theorem wide_at (j : Fin 24) (p : Fin 2048) : KernelIdeal.lit0 (KernelIdeal.S24x2048.rowMajor (ix2 j p)) = BitVec.ofNat 32 (slot (sl j) p).val := by
  have e : (KernelIdeal.S24x2048.rowMajor (ix2 j p)).val = 2048 * j.val + p.val := by
    rw [Shape.rowMajor_val_two]
    show j.val * 2048 + p.val = _
    omega
  refine (lit0_val _).trans (Eq.trans ?_ (wide_head j p))
  exact congrArg KernelIdeal.lit0t e

/-- The tall table at an index. -/
theorem tall_at (p : Fin 2048) (r : Fin 3) : KernelIdeal.lit1 (KernelIdeal.S2048x3.rowMajor (ix2 p r)) = BitVec.ofNat 32 (slot r p).val := by
  have e : KernelIdeal.S2048x3.rowMajor (ix2 p r) = (⟨3 * p.val + r.val, by omega⟩ : Fin 6144) := by
    apply Fin.ext
    rw [Shape.rowMajor_val_two]
    show p.val * 3 + r.val = 3 * p.val + r.val
    omega
  refine (congrArg KernelIdeal.lit1 e).trans ?_
  rw [slot_val]
  exact tall_table p r

end Cert.Slots
-- ==== Proof.ArraysB.lean ====
/- What the second kernel region leaves in its output array, and the program's result, from the program's arguments. -/
module

public import proofs.«01_k».proof.Proof.ArraysA
public import proofs.«01_k».proof.Proof.BlockValue
public import proofs.«01_k».proof.Proof.ChoiceValue
public import proofs.«01_k».proof.Proof.Tables

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Run Cert.Slots Cert.Spec

/-- A grid point of the second region is its number. -/
theorem point1_lt (t : Fin cfg1.N) : t.val < 8 := lt_of_lt_of_eq t.isLt N_1

/-- The second region's windows' block numbers, at every grid point. -/
theorem idx1s : ∀ t : Fin cfg1.N, win1_0.index t = ![0, 0] ∧ win1_1.index t = ![0, 0] ∧ win1_2.index t = ![0, 0, 0]
    ∧ win1_3.index t = ![t.val, 0, 0] ∧ win1_4.index t = ![t.val, 0, 0] ∧ win1_5.index t = ![t.val, 0, 0]
    ∧ win1_6.index t = ![0, 0] ∧ win1_7.index t = ![0, 0] ∧ win1_8.index t = ![t.val, 0] :=
  (by decide +kernel : ∀ t : Fin grid1.N, _)

/-- A grid point's coordinate is its number. -/
theorem coord1 : ∀ t : Fin cfg1.N, (grid1.coords t 0).val = t.val := (by decide +kernel : ∀ t : Fin grid1.N, (grid1.coords t 0).val = t.val)

/-- One store fills the block: what is left is what was stored, from the loaded blocks. -/
theorem resL_eq (I : grid1.Coords) (idx : IVec S24x64 32) (x0 : IVec S24x2048 32) (x1 : IVec S2048x3 32) (x3 x4 x5 : FVec Ideal S3x2048x64 .bf16)
    (x6 : FVec Ideal S768x768 .f32) (x7 : FVec Ideal S1x768 .f32) :
    resL (F := Ideal) I idx x0 x1 x3 x4 x5 x6 x7 = res (F := Ideal) I idx x0 x1 x3 x4 x5 x6 x7 := by
  unfold resL rA rB rD rE rF rG
  simp (disch := decide) only [View.canon_cons_unit_lit', View.ld_unit_lit']

/-- The kept positions are the chosen ones. -/
theorem idxL_eq (x0 : IVec S24x2048 32) (x2 : FVec Ideal S24x1x2048 .f32) : idxL (F := Ideal) x0 x2 = topk (F := Ideal) x0 x2 := by
  unfold idxL rA rC rD
  simp (disch := decide) only [View.canon_cons_unit_lit', View.ld_unit_lit']

variable (m : (ℓ : Loc nD τ sig) → Buf (Elt Ideal) ℓ) (ρ : Dev nD → PrngReg) (c : Dev nD)

/-- The wide table as the second region finds it. -/
theorem wide_read (j : Fin 24) (p : Fin 2048) :
    (show IVec S24x2048 32 from V2 m ρ c main_c) (ix2 j p) = BitVec.ofNat 32 (slot (sl j) p).val := by
  have e : (show IVec S24x2048 32 from V1 m ρ c main_c) = fun i => lit0 (S24x2048.rowMajor i) := by
    dsimp only [V1, W1, hostOps0]
    entry_read
    rfl
  exact (congrFun ((W2_of m ρ c main_c (by decide)).trans e) (ix2 j p)).trans (wide_at j p)

/-- The tall table as the second region finds it. -/
theorem tall_read (p : Fin 2048) (r : Fin 3) :
    (show IVec S2048x3 32 from V2 m ρ c main_c_0) (ix2 p r) = BitVec.ofNat 32 (slot r p).val := by
  have e : (show IVec S2048x3 32 from V1 m ρ c main_c_0) = fun i => lit1 (S2048x3.rowMajor i) := by
    dsimp only [V1, W1, hostOps0]
    entry_read
    rfl
  exact (congrFun ((W2_of m ρ c main_c_0 (by decide)).trans e) (ix2 p r)).trans (tall_at p r)

/-- The second region's wide table block is the table. -/
theorem blk1_0 (t : Fin cfg1.N) (j : Fin 24) (p : Fin 2048) :
    (show IVec S24x2048 32 from iblk1 (V2 m ρ) c 0 t) (ix2 j p) = BitVec.ofNat 32 (slot (sl j) p).val := by
  refine Eq.trans ?_ (wide_read m ρ c j p)
  blk_ext [iblk1, idx1s t]
/-- The second region's tall table block is the table. -/
theorem blk1_1 (t : Fin cfg1.N) (p : Fin 2048) (r : Fin 3) :
    (show IVec S2048x3 32 from iblk1 (V2 m ρ) c 1 t) (ix2 p r) = BitVec.ofNat 32 (slot r p).val := by
  refine Eq.trans ?_ (tall_read m ρ c p r)
  blk_ext [iblk1, idx1s t]

/-- The projected queries, keys and values of the program's arguments, head by head. -/
def qOf (j : Fin 24) (n : Fin 2048) (d : Fin 64) : EReal :=
  proj (flatIn (m ((c : Thread nD τ).loc main_arg0))) (mat (m ((c : Thread nD τ).loc main_arg1))) (vec (m ((c : Thread nD τ).loc main_arg2))) j n d
/-- The projected keys of the program's arguments, head by head. -/
def kOf (j : Fin 24) (n : Fin 2048) (d : Fin 64) : EReal :=
  proj (flatIn (m ((c : Thread nD τ).loc main_arg0))) (mat (m ((c : Thread nD τ).loc main_arg3))) (vec (m ((c : Thread nD τ).loc main_arg4))) j n d
/-- The projected values of the program's arguments, head by head. -/
def vOf (j : Fin 24) (n : Fin 2048) (d : Fin 64) : EReal :=
  proj (flatIn (m ((c : Thread nD τ).loc main_arg0))) (mat (m ((c : Thread nD τ).loc main_arg5))) (vec (m ((c : Thread nD τ).loc main_arg6))) j n d

/-- The second region's block of scores is the whole array of them. -/
theorem blk1_2 (t : Fin cfg1.N) (j : Fin 24) (p : Fin 2048) :
    (show FVec Ideal S24x1x2048 .f32 from iblk1 (V2 m ρ) c 2 t) (ix3 j 0 p) = score (qOf m c j) (kOf m c j) (slot (sl j) p) := by
  refine Eq.trans ?_ (arr_m m ρ c j p)
  blk_ext [iblk1, idx1s t]
/-- Page `r` of a block of queries: the head's queries in the order of the slots. -/
theorem blk1_3 (t : Fin cfg1.N) (r : Fin 3) (p : Fin 2048) (d : Fin 64) :
    (show FVec Ideal S3x2048x64 .bf16 from iblk1 (V2 m ρ) c 3 t) (ix3 r p d) = qOf m c (hd ⟨t.val, point1_lt t⟩ r) (slot r p) d := by
  refine Eq.trans ?_ ((arr_q m ρ c (hd ⟨t.val, point1_lt t⟩ r) p d).trans ?_)
  · unfold hd
    blk_ext [iblk1, idx1s t]
  · rw [sl_hd]; rfl
/-- The same for the keys. -/
theorem blk1_4 (t : Fin cfg1.N) (r : Fin 3) (p : Fin 2048) (d : Fin 64) :
    (show FVec Ideal S3x2048x64 .bf16 from iblk1 (V2 m ρ) c 4 t) (ix3 r p d) = kOf m c (hd ⟨t.val, point1_lt t⟩ r) (slot r p) d := by
  refine Eq.trans ?_ ((arr_k m ρ c (hd ⟨t.val, point1_lt t⟩ r) p d).trans ?_)
  · unfold hd
    blk_ext [iblk1, idx1s t]
  · rw [sl_hd]; rfl
/-- The same for the values. -/
theorem blk1_5 (t : Fin cfg1.N) (r : Fin 3) (p : Fin 2048) (d : Fin 64) :
    (show FVec Ideal S3x2048x64 .bf16 from iblk1 (V2 m ρ) c 5 t) (ix3 r p d) = vOf m c (hd ⟨t.val, point1_lt t⟩ r) (slot r p) d := by
  refine Eq.trans ?_ ((arr_v m ρ c (hd ⟨t.val, point1_lt t⟩ r) p d).trans ?_)
  · unfold hd
    blk_ext [iblk1, idx1s t]
  · rw [sl_hd]; rfl
/-- The last weights are argument 7. -/
theorem blk1_6 (t : Fin cfg1.N) (e k : Fin 768) :
    (show FVec Ideal S768x768 .f32 from iblk1 (V2 m ρ) c 6 t) (ix2 e k) = mat (m ((c : Thread nD τ).loc main_arg7)) e k := by
  refine Eq.trans ?_ (congrFun (W2_args m ρ c main_arg7 (by decide)) (ix2 e k))
  blk_ext [iblk1, idx1s t]
/-- The last bias is argument 8. -/
theorem blk1_7 (t : Fin cfg1.N) (k : Fin 768) :
    (show FVec Ideal S1x768 .f32 from iblk1 (V2 m ρ) c 7 t) (ix2 0 k) = vec (m ((c : Thread nD τ).loc main_arg8)) k := by
  refine Eq.trans ?_ ((congrFun (W2_of m ρ c main_v4 (by decide)) (ix2 0 k)).trans (v4_read m ρ c k))
  blk_ext [iblk1, idx1s t]

/-- The positions kept in the scratch buffer are the best sixty-four of each head. -/
theorem kept (j : Fin 24) : ∃ i, Top (score (qOf m c j) (kOf m c j)) i
    ∧ ∀ l, (show IVec S24x64 32 from idx1 (V2 m ρ) c) (ix2 j l) = BitVec.ofNat 32 (i l).val := by
  obtain ⟨i, hi, e⟩ := topk_at (show IVec S24x2048 32 from iblk1 (V2 m ρ) c 0 pt0) (show FVec Ideal S24x1x2048 .f32 from iblk1 (V2 m ρ) c 2 pt0)
    (fun j => score (qOf m c j) (kOf m c j)) (fun j => slot (sl j)) (blk1_0 m ρ c pt0) (blk1_2 m ρ c pt0) (fun j n => score_ne_bot _ _ n) j
  exact ⟨i, hi, fun l => (congrFun (idxL_eq _ _) (ix2 j l)).trans (e l)⟩

/-- The layer of the program's arguments. -/
def layerOf (n : Fin 4096) (k : Fin 768) : EReal :=
  layer (flatIn (m ((c : Thread nD τ).loc main_arg0))) (mat (m ((c : Thread nD τ).loc main_arg1))) (vec (m ((c : Thread nD τ).loc main_arg2)))
    (mat (m ((c : Thread nD τ).loc main_arg3))) (vec (m ((c : Thread nD τ).loc main_arg4))) (mat (m ((c : Thread nD τ).loc main_arg5))) (vec (m ((c : Thread nD τ).loc main_arg6)))
    (mat (m ((c : Thread nD τ).loc main_arg7))) (vec (m ((c : Thread nD τ).loc main_arg8))) n k

/-- The block the second body stores: rows of the layer. -/
theorem block_layer (t : Fin cfg1.N) (i : Fin 512) (k : Fin 768) :
    resL (F := Ideal) (grid1.coords t) (idx1 (V2 m ρ) c) (iblk1 (V2 m ρ) c 0 t) (iblk1 (V2 m ρ) c 1 t) (iblk1 (V2 m ρ) c 3 t) (iblk1 (V2 m ρ) c 4 t) (iblk1 (V2 m ρ) c 5 t)
      (iblk1 (V2 m ρ) c 6 t) (iblk1 (V2 m ρ) c 7 t) (ix2 i k) = layerOf m c (brow ⟨t.val, point1_lt t⟩ i) k := by
  choose ch hch hidx using kept m ρ c
  refine (congrFun (resL_eq _ _ _ _ _ _ _ _ _) (ix2 i k)).trans ?_
  refine (res_at (grid1.coords t) ⟨t.val, point1_lt t⟩ (coord1 t) _ _ _ _ _ _ _ _ (qOf m c) (kOf m c) (vOf m c) ch hidx hch (blk1_0 m ρ c t) (blk1_1 m ρ c t)
    (blk1_3 m ρ c t) (blk1_4 m ρ c t) (blk1_5 m ρ c t) i k).trans ?_
  unfold layerOf layer last
  exact congrArg₂ (· + ·) (Finset.sum_congr rfl fun e _ => congrArg₂ (· * ·) rfl (blk1_6 m ρ c t e k)) (blk1_7 m ρ c t k)

/-- A block of rows, read at a place of the whole array. -/
theorem block_place (A : FVec Ideal S512x768 .f32) (L : Fin 4096 → Fin 768 → EReal) (g : Fin 8) (hA : ∀ i k, A (ix2 i k) = L (brow g i) k)
    (i : S4096x768.Idx) (y : S512x768.Idx) (h0 : (i 0 : ℕ) = 512 * g.val + (y 0 : ℕ)) (h1 : (i 1 : ℕ) = (y 1 : ℕ)) : A y = L (i 0) (i 1) := by
  obtain ⟨t, k, rfl⟩ : ∃ (t : Fin 512) (k : Fin 768), y = ix2 t k := ⟨y 0, y 1, by blk_ext⟩
  have hi : i = ix2 (brow g t) k := by
    have h0' : (i 0 : ℕ) = 512 * g.val + t.val := h0
    have h1' : (i 1 : ℕ) = k.val := h1
    unfold brow
    blk_ext
  subst hi
  exact hA t k

/-- The second region's output array: the layer, row by row. -/
theorem arr_out : (dat1 (V2 m ρ) c).arrAt 8 cfg1.N = (show FVec Ideal S4096x768 .f32 from fun i => layerOf m c (i 0) (i 1)) := by
  refine (dat1 (V2 m ρ) c).arrAt_eq_of_covers 8 _ (by decide +kernel) fun t hf y => ?_
  blk_simp
  rw [after1_8]
  exact block_place _ _ ⟨t.val, point1_lt t⟩ (block_layer m ρ c t) _ y (by blk_simp [idx1s t]; dsimp only; omega) (by blk_simp [idx1s t] <;> omega)

/-- An array of rows laid out as two pages. -/
theorem cast_pages (x : FVec Ideal S4096x768 .f32) (u : Fin 2) (t : Fin 2048) (k : Fin 768) :
    shapeCast S2x2048x768 x shapeCasts_S4096x768_S2x2048x768 (ix3 u t k) = x (ix2 ⟨2048 * u.val + t.val, by omega⟩ k) := by
  pointwise
  blk_ext

/-- The program's result: the layer of its arguments. -/
theorem result_layer (u : Fin 2) (t : Fin 2048) (k : Fin 768) :
    (show FVec Ideal S2x2048x768 .f32 from W4 m ρ c (Proc.devRef .tc main_v7)) (ix3 u t k) = layerOf m c ⟨2048 * u.val + t.val, by omega⟩ k := by
  have e : (show FVec Ideal S2x2048x768 .f32 from W4 m ρ c (Proc.devRef .tc main_v7))
      = shapeCast S2x2048x768 (show FVec Ideal S4096x768 .f32 from W3 m ρ c (Proc.devRef .tc main_v6)) shapeCasts_S4096x768_S2x2048x768 := by
    dsimp only [W4, hostOps2]
    entry_read
    rfl
  refine (congrFun e (ix3 u t k)).trans ((cast_pages _ u t k).trans ?_)
  exact congrFun ((W3_arr m ρ c 8).trans (arr_out m ρ c)) (ix2 ⟨2048 * u.val + t.val, by omega⟩ k)

end Cert.KernelIdeal.Value
-- ==== Proof.RefSort.lean ====
/- The positions the reference's stable sort puts last are the chosen rows. -/
module

public import proofs.«01_k».proof.Proof.Spec
public import Idealize.ShloMosaic.Lib.SortFacts
public import Idealize.ShloMosaic.Lib.SortPrefix

@[expose] public section

noncomputable section

namespace Cert.RefValue

open Cert.Spec Idealize.ShloMosaic

/-- On positions listed in increasing order the stable sort by a key is the sort by the key and then the position. -/
theorem stableSort_key {n : Nat} (R B : Fin n → Fin n → Bool) (hRB : ∀ a b, a < b → R b a = B b a) (l : List (Fin n))
    (hl : l.Pairwise (· < ·)) : stableSort R l = stableSort B l := by
  induction l with
  | nil => rfl
  | cons a l ih =>
    rw [List.pairwise_cons] at hl
    show insertBefore R a (stableSort R l) = insertBefore B a (stableSort B l)
    rw [ih hl.2]
    exact insertBefore_congr R B a _ fun b hb => hRB a b (hl.1 b ((perm_stableSort B l).mem_iff.mp hb))

/-- Equal lists of positions give equal sources. -/
theorem sortedFrom_of {n : Nat} (R B : Fin n → Fin n → Bool) (h : sortPositions n R = sortPositions n B) : sortedFrom R = sortedFrom B := by
  funext k
  unfold sortedFrom
  rw [List.get_of_eq h]
  rfl

open Classical in
/-- The last sixty-four positions of the stable sort by the key, from the last back, are the chosen rows. -/
theorem top_sorted (M : Fin 2048 → EReal) (R : Fin 2048 → Fin 2048 → Bool) (hR : ∀ a b, R a b = decide (M a < M b)) :
    Top M fun l : Fin 64 => sortedFrom R ⟨2047 - l.val, by omega⟩ := by
  have hst := StrictTotalBefore.of_key_then_position (fun a b : EReal => decide (a < b)) M
    (fun a => by simp) (fun a b c h h' => by simp only [decide_eq_true_eq] at *; exact lt_trans h h')
    (fun a b => by simp only [decide_eq_true_eq]; exact lt_trichotomy a b)
  have hp : sortPositions 2048 R = sortPositions 2048 (fun k k' => decide (M k < M k') || (decide (M k = M k') && decide (k < k'))) := by
    refine stableSort_key _ _ (fun a b hab => ?_) _ (List.pairwise_lt_finRange 2048)
    rw [hR]
    have : ¬ b < a := not_lt.mpr hab.le
    simp [this]
  have hs : sortedFrom R = sortedFrom (fun k k' => decide (M k < M k') || (decide (M k = M k') && decide (k < k'))) := sortedFrom_of _ _ hp
  constructor
  · intro l l' h
    have := congrArg Fin.val (sortedFrom_injective R h)
    exact Fin.ext (by simp only at this; omega)
  · intro n hn l
    obtain ⟨p, rfl⟩ := sortedFrom_surjective R n
    have hlt : p.val < 2047 - l.val := by
      by_contra hge
      exact hn ⟨2047 - p.val, by omega⟩ (congrArg (sortedFrom R) (Fin.ext (by show 2047 - (2047 - p.val) = p.val; omega)))
    have hni := sortedFrom_noInversion _ _ (fun a b h => hst.asymm a b h) (fun _ _ h => h) hst.negTrans p ⟨2047 - l.val, by omega⟩ hlt
    rw [← hs] at hni
    rcases prec_total M (sortedFrom R p) (sortedFrom R ⟨2047 - l.val, by omega⟩) (fun e => by
      have := congrArg Fin.val (sortedFrom_injective R e); simp only at this; omega) with h | h
    · exact h
    · exfalso
      rcases h with h | ⟨h, h'⟩
      · simp [h] at hni
      · simp [h, h'] at hni

end Cert.RefValue

end
-- ==== Proof.RefParts.lean ====
/- The reference's operations, read at an index. -/
module

public import proofs.«01_k».proof.Proof.Gen.ReferenceIdeal
public import proofs.«01_k».proof.Proof.RefSort
public import proofs.«01_k».proof.Proof.Choice
public import Idealize.ShloMosaic.Lib.Pointwise
public import Idealize.ShloMosaic.Lib.Routing.OpsSet
public import Idealize.ShloMosaic.Lib.Routing.OpsPair

@[expose] public section

set_option maxRecDepth 16384

noncomputable section

namespace Cert.RefValue

open Cert.Spec Cert.ReferenceIdeal Cert.ReferenceIdeal.Gen
open Idealize.ShloMosaic Idealize.ShloMosaic.TcCoe Idealize.SL.Sem Idealize.ShloMosaic.Routing

/-- A projection at a batch entry, a position and a column. -/
theorem lin_at (X : FVec Ideal S2x2048x768 .f32) (W : FVec Ideal S768x768 .f32) (b : FVec Ideal S768 .f32) (u : Fin 2) (t : Fin 2048) (c : Fin 768) :
    addf (F := Ideal) (Host.dotGeneral (F := Ideal) dot_S2x2048x768_S768x768_S2x2048x768_2_0_01_1_n_n none X W) (broadcastInDim S2x2048x768 ![0, 1, 2] bcast_S1x1x768_S2x2048x768_0_1_2 (broadcastInDim S1x1x768 ![2] bcast_S768_S1x1x768_2 b)) (ix3 u t c)
      = (∑ k : Fin 768, X (ix3 u t k) * W (ix2 k c)) + b (ix1 c) := by
  pointwise

/-- The split into heads: the flat row-major order is kept. -/
theorem split_at (Y : FVec Ideal S2x2048x768 .f32) (j : Fin 24) (n : Fin 2048) (d : Fin 64) :
    shapeCast S24x2048x64 (shapeCast S2x2048x12x64 Y shapeCasts_S2x2048x768_S2x2048x12x64) shapeCasts_S2x2048x12x64_S24x2048x64 (ix3 j n d)
      = Y (ix3 ⟨(hrow j n).val / 2048, by have := (hrow j n).isLt; omega⟩ ⟨(hrow j n).val % 2048, by omega⟩ (hcol j n d)) := by
  pointwise
  congr 1
  have e0 : j.val / 12 = (2048 * j.val + n.val) / 12 / 2048 := by omega
  have e1 : (j.val * 131072 + n.val * 64 + d.val) / 768 % 2048 = (2048 * j.val + n.val) / 12 % 2048 := by omega
  have e2 : (j.val * 131072 + n.val * 64 + d.val) % 768 = 64 * ((2048 * j.val + n.val) % 12) + d.val := by omega
  unfold hrow hcol
  simp only [e0, e1, e2]

/-- The heads joined: the flat row-major order is kept. -/
theorem join_at (Y : FVec Ideal S24x2048x64 .f32) (u : Fin 2) (t : Fin 2048) (c : Fin 768) :
    shapeCast S2x2048x768 Y shapeCasts_S24x2048x64_S2x2048x768 (ix3 u t c)
      = Y (ix3 ⟨(12 * (2048 * u.val + t.val) + c.val / 64) / 2048, by omega⟩ ⟨(12 * (2048 * u.val + t.val) + c.val / 64) % 2048, by omega⟩ ⟨c.val % 64, by omega⟩) := by
  pointwise
  congr 1
  have e0 : (u.val * 1572864 + t.val * 768 + c.val) / 131072 = (12 * (2048 * u.val + t.val) + c.val / 64) / 2048 := by omega
  have e1 : (u.val * 1572864 + t.val * 768 + c.val) / 64 % 2048 = (12 * (2048 * u.val + t.val) + c.val / 64) % 2048 := by omega
  simp only [e0, e1]

/-- A row scaled to unit length. -/
theorem unit_at (q : FVec Ideal S24x2048x64 .f32) (j : Fin 24) (n : Fin 2048) (d : Fin 64) :
    mulf (F := Ideal) q (broadcastInDim S24x2048x64 ![0, 1, 2] bcast_S24x2048x1_S24x2048x64_0_1_2 (Host.rsqrt (F := Ideal) (maximumf (F := Ideal) (broadcastInDim S24x2048x1 ![0, 1] bcast_S24x2048_S24x2048x1_0_1 (Host.reduceAdd (F := Ideal) (mulf (F := Ideal) q q) (constant (F := Ideal) S_ .f32 0x00000000#32) reducesTo_S24x2048x64_S24x2048_d2 h_S_)) (broadcastInDim S24x2048x1 ![] bcast_S_S24x2048x1 (constant (F := Ideal) S_ .f32 0x2B8CBCCC#32))))) (ix3 j n d)
      = unit (fun d => q (ix3 j n d)) d := by
  pointwise
  rfl

/-- The largest score of a row. -/
theorem score_at (nq nk : FVec Ideal S24x2048x64 .f32) (j : Fin 24) (n : Fin 2048) :
    Host.reduce FloatOps.maximumf (Host.dotGeneral (F := Ideal) dot_S24x2048x64_S24x2048x64_S24x2048x2048_2_2_1_1_0_0 none nq nk) (constant (F := Ideal) S_ .f32 0xFF800000#32) reducesTo_S24x2048x2048_S24x2048_d2 h_S_ (ix2 j n)
      = big fun m : Fin 2048 => ∑ d : Fin 64, nq (ix3 j n d) * nk (ix3 j m d) := by
  pointwise [minf]
  rfl

/-- The comparator: the smaller number is before. -/
theorem before_iff (a b : Ideal .f32) (x y : BitVec 32) : (comparator_f32_i32_d1 (F := Ideal) (a, x) (b, y) == 1#1) = (@decide ((a : EReal) < b) (Classical.dec _)) := by
  have h0 : ∀ c : Ideal .f32, Scalar.select (FloatOps.cmpf (F := Ideal) .une c c) (FloatOps.ofBits .f32 0x7FC00000#32)
      (Scalar.select (FloatOps.cmpf (F := Ideal) .oeq c (FloatOps.ofBits .f32 0x00000000#32)) (FloatOps.ofBits .f32 0x00000000#32) c) = c := fun c => by
    have e1 : FloatOps.cmpf (F := Ideal) .une c c = 0#1 := by
      show Ideal.cmp .une c c = 0#1
      simp [Ideal.cmp]
    rw [e1]
    show Scalar.select (FloatOps.cmpf (F := Ideal) .oeq c (FloatOps.ofBits .f32 0x00000000#32)) (FloatOps.ofBits .f32 0x00000000#32) c = c
    by_cases h : c = FloatOps.ofBits (F := Ideal) .f32 0x00000000#32
    · rw [← h]; unfold Scalar.select; split <;> rfl
    · have e2 : FloatOps.cmpf (F := Ideal) .oeq c (FloatOps.ofBits .f32 0x00000000#32) = 0#1 := by
        show Ideal.cmp .oeq c _ = 0#1
        have z : (FloatOps.ofBits (F := Ideal) .f32 0x00000000#32 : EReal) = 0 := by
          show Ideal.ofBits .f32 0x00000000#32 = 0
          unfold Ideal.ofBits Ideal.ieee; simp
        have h' : ¬ (c : EReal) = 0 := fun e => h (e.trans z.symm)
        simp [Ideal.cmp, h']
      rw [e2]; rfl
  unfold comparator_f32_i32_d1
  dsimp only
  rw [h0, h0]
  show (Ideal.cmp .olt a b == 1#1) = _
  by_cases h : (a : EReal) < b <;> simp [Ideal.cmp, h]

/-- The sort's second result at a position: its operand's element at the position the sorted element came from. -/
theorem sort_rows {A B : Nat} {α β : Type} (cmp : α × β → α × β → BitVec 1) (x : (shape2 A B).Idx → α) (y : (shape2 A B).Idx → β) (j : Fin A) (q : Fin B) :
    (Host.sort2 (shape2 A B) 1 cmp x y).2 (ix2 j q)
      = y (ix2 j (sortedFrom (fun k k' : Fin B => cmp (x (ix2 j k), y (ix2 j k)) (x (ix2 j k'), y (ix2 j k')) == 1#1) q)) := by
  have ea : ∀ k : Fin B, Shape.Idx.along (s := shape2 A B) (ix2 j q) (1 : Fin 2) k = ix2 j k := fun k => by
    funext b
    match b with
    | ⟨0, _⟩ => rfl
    | ⟨1, _⟩ => rfl
  unfold Host.sort2
  rw [dif_pos (show 1 < (shape2 A B).rank from Nat.lt_succ_self 1)]
  dsimp only
  refine (congrArg y (ea _)).trans ?_
  refine congrArg (fun R => y (ix2 j (sortedFrom R q))) (funext fun k => funext fun k' => ?_)
  exact congrArg₂ (fun s t => cmp (x s, y s) (x t, y t) == 1#1) (ea k) (ea k')

/-- The chosen positions, as the reference lists them. -/
theorem chosen_at (m : FVec Ideal S24x2048 .f32) (j : Fin 24) : ∃ i : Fin 64 → Fin 2048, Top (fun n => m (ix2 j n)) i ∧ ∀ l,
    extractStridedSlice S24x64 ![0, 0] (Host.reverse [1] ((Host.sort2 S24x2048 1 (comparator_f32_i32_d1 (F := Ideal)) m (iotaInDim S24x2048 32 1)).2)) slices_S24x2048_S24x64_0_0 (ix2 j l)
      = BitVec.ofNat 32 (i l).val := by
  refine ⟨_, top_sorted (fun n => m (ix2 j n)) (fun k k' => comparator_f32_i32_d1 (F := Ideal) (m (ix2 j k), BitVec.ofNat 32 k.val) (m (ix2 j k'), BitVec.ofNat 32 k'.val) == 1#1) (fun a b => ?_), fun l => ?_⟩
  · rw [before_iff]; congr
  · pointwise
    change (Host.sort2 S24x2048 1 (comparator_f32_i32_d1 (F := Ideal)) m (iotaInDim S24x2048 32 1)).2 (ix2 j (Fin.rev ⟨l.val, by omega⟩)) = _
    refine (sort_rows _ _ _ j _).trans ?_
    refine congrArg (fun q => BitVec.ofNat 32 (sortedFrom (n := 2048) _ q).val) (Fin.ext ?_)
    show 2048 - (l.val + 1) = 2047 - l.val
    omega

/-- The gathered rows. -/
theorem gather_at (x : FVec Ideal S24x2048x64 .f32) (idx : IVec S24x64x1 32) (j : Fin 24) (l : Fin 64) (e : Fin 64) (n : Fin 2048)
    (h : idx (ix3 j l 0) = BitVec.ofNat 32 n.val) :
    Host.gather gather_S24x2048x64_S24x64x1_S24x64x64_2_1_0_0_1_2_1164 x idx (ix3 j l e) = x (ix3 j n e) := by
  unfold Host.gather
  refine congrArg x (funext fun a => Fin.ext ?_)
  match a with
  | ⟨0, _⟩ =>
    show GatherDims.start gather_S24x2048x64_S24x64x1_S24x64x64_2_1_0_0_1_2_1164 (ix3 j l e) idx (0 : Fin 3) + GatherDims.batchCoord gather_S24x2048x64_S24x64x1_S24x64x64_2_1_0_0_1_2_1164 (ix3 j l e) (0 : Fin 3) + GatherDims.offCoord gather_S24x2048x64_S24x64x1_S24x64x64_2_1_0_0_1_2_1164 (ix3 j l e) (0 : Fin 3) = j.val
    unfold GatherDims.start GatherDims.batchCoord GatherDims.offCoord
    rw [dif_neg (by decide), dif_pos (by decide), dif_neg (by decide), Nat.zero_add, Nat.add_zero]
    rfl
  | ⟨1, _⟩ =>
    show GatherDims.start gather_S24x2048x64_S24x64x1_S24x64x64_2_1_0_0_1_2_1164 (ix3 j l e) idx (1 : Fin 3) + GatherDims.batchCoord gather_S24x2048x64_S24x64x1_S24x64x64_2_1_0_0_1_2_1164 (ix3 j l e) (1 : Fin 3) + GatherDims.offCoord gather_S24x2048x64_S24x64x1_S24x64x64_2_1_0_0_1_2_1164 (ix3 j l e) (1 : Fin 3) = n.val
    unfold GatherDims.start GatherDims.batchCoord GatherDims.offCoord
    rw [dif_pos (by decide), dif_neg (by decide), dif_neg (by decide), Nat.add_zero]
    have e : ∀ hm, GatherDims.siIdx gather_S24x2048x64_S24x64x1_S24x64x64_2_1_0_0_1_2_1164 (ix3 j l e) hm = ix3 j l 0 := fun hm => by
      funext b
      match b with
      | ⟨0, _⟩ => rfl
      | ⟨1, _⟩ => rfl
      | ⟨2, _⟩ => exact Subsingleton.elim (α := Fin 1) _ _
    refine (congrArg (fun t => min (idx t).toInt.toNat (2048 - 1)) (e _)).trans ?_
    rw [h, toInt_row]
    show min ((n.val : Int)).toNat (2048 - 1) = n.val
    omega
  | ⟨2, _⟩ =>
    show GatherDims.start gather_S24x2048x64_S24x64x1_S24x64x64_2_1_0_0_1_2_1164 (ix3 j l e) idx (2 : Fin 3) + GatherDims.batchCoord gather_S24x2048x64_S24x64x1_S24x64x64_2_1_0_0_1_2_1164 (ix3 j l e) (2 : Fin 3) + GatherDims.offCoord gather_S24x2048x64_S24x64x1_S24x64x64_2_1_0_0_1_2_1164 (ix3 j l e) (2 : Fin 3) = e.val
    unfold GatherDims.start GatherDims.batchCoord GatherDims.offCoord
    rw [dif_neg (by decide), dif_neg (by decide), dif_pos (by decide), Nat.zero_add]
    rfl

/-- Where an update lands. -/
theorem lands (idx : IVec S24x64x2 32) (i : Fin 24 → Fin 64 → Fin 2048) (h0 : ∀ j l, idx (ix3 j l 0) = BitVec.ofNat 32 j.val)
    (h1 : ∀ j l, idx (ix3 j l 1) = BitVec.ofNat 32 (i j l).val) (j' j : Fin 24) (l : Fin 64) (e' e : Fin 64) (n : Fin 2048) :
    ScatterDims.resultIdx? scatter_S24x2048x64_S24x64x2_S24x64x64_2_01_01_2 (ix3 j' l e') idx = some (ix3 j n e) ↔ j' = j ∧ i j' l = n ∧ e' = e := by
  have e0 : ∀ hm, ScatterDims.siIdx scatter_S24x2048x64_S24x64x2_S24x64x64_2_01_01_2 (ix3 j' l e') ⟨0, hm⟩ = ix3 j' l 0 := fun hm => by
    funext b
    match b with
    | ⟨0, _⟩ => rfl
    | ⟨1, _⟩ => rfl
    | ⟨2, _⟩ => rfl
  have e1 : ∀ hm, ScatterDims.siIdx scatter_S24x2048x64_S24x64x2_S24x64x64_2_01_01_2 (ix3 j' l e') ⟨1, hm⟩ = ix3 j' l 1 := fun hm => by
    funext b
    match b with
    | ⟨0, _⟩ => rfl
    | ⟨1, _⟩ => rfl
    | ⟨2, _⟩ => rfl
  have s0 : ScatterDims.start scatter_S24x2048x64_S24x64x2_S24x64x64_2_01_01_2 (ix3 j' l e') idx (0 : Fin 3) = (j'.val : Int) := by
    unfold ScatterDims.start
    rw [dif_pos (by decide)]
    refine Eq.trans (congrArg (fun t => (idx t).toInt) (e0 (by decide))) ?_
    rw [h0]
    exact toInt_row ⟨j'.val, by omega⟩
  have s1 : ScatterDims.start scatter_S24x2048x64_S24x64x2_S24x64x64_2_01_01_2 (ix3 j' l e') idx (1 : Fin 3) = ((i j' l).val : Int) := by
    unfold ScatterDims.start
    rw [dif_pos (by decide)]
    refine Eq.trans (congrArg (fun t => (idx t).toInt) (e1 (by decide))) ?_
    rw [h1]
    exact toInt_row _
  have s2 : ScatterDims.start scatter_S24x2048x64_S24x64x2_S24x64x64_2_01_01_2 (ix3 j' l e') idx (2 : Fin 3) = 0 := by
    unfold ScatterDims.start
    rw [dif_neg (by decide)]
  have w0 : ScatterDims.window scatter_S24x2048x64_S24x64x2_S24x64x64_2_01_01_2 (ix3 j' l e') (0 : Fin 3) = 0 := by
    unfold ScatterDims.window
    rw [dif_neg (by decide)]
  have w1 : ScatterDims.window scatter_S24x2048x64_S24x64x2_S24x64x64_2_01_01_2 (ix3 j' l e') (1 : Fin 3) = 0 := by
    unfold ScatterDims.window
    rw [dif_neg (by decide)]
  have w2 : ScatterDims.window scatter_S24x2048x64_S24x64x2_S24x64x64_2_01_01_2 (ix3 j' l e') (2 : Fin 3) = e'.val := by
    unfold ScatterDims.window
    rw [dif_pos (by decide)]
    rfl
  rw [resultIdx?_eq_some]
  constructor
  · intro h
    have a0 := h (0 : Fin 3)
    have a1 := h (1 : Fin 3)
    have a2 := h (2 : Fin 3)
    rw [s0, w0] at a0
    rw [s1, w1] at a1
    rw [s2, w2] at a2
    change (j'.val : Int) + ((0 : Nat) : Int) = (j.val : Int) at a0
    change ((i j' l).val : Int) + ((0 : Nat) : Int) = (n.val : Int) at a1
    change (0 : Int) + (e'.val : Int) = (e.val : Int) at a2
    exact ⟨Fin.ext (by omega), Fin.ext (by omega), Fin.ext (by omega)⟩
  · rintro ⟨rfl, rfl, rfl⟩ a
    match a with
    | ⟨0, _⟩ => exact (congrArg₂ (fun x (y : Nat) => x + (y : Int)) s0 w0).trans (by show (j'.val : Int) + ((0 : Nat) : Int) = (j'.val : Int); omega)
    | ⟨1, _⟩ => exact (congrArg₂ (fun x (y : Nat) => x + (y : Int)) s1 w1).trans (by show ((i j' l).val : Int) + ((0 : Nat) : Int) = ((i j' l).val : Int); omega)
    | ⟨2, _⟩ => exact (congrArg₂ (fun x (y : Nat) => x + (y : Int)) s2 w2).trans (by show (0 : Int) + (e'.val : Int) = (e'.val : Int); omega)

/-- The rows scattered back: a chosen row holds its attention, every other row the operand's. -/
theorem scatter_at (x0 : FVec Ideal S24x2048x64 .f32) (idx : IVec S24x64x2 32) (upd : FVec Ideal S24x64x64 .f32) (i : Fin 24 → Fin 64 → Fin 2048)
    (G : Fin 24 → Fin 2048 → Fin 64 → EReal) (h0 : ∀ j l, idx (ix3 j l 0) = BitVec.ofNat 32 j.val)
    (h1 : ∀ j l, idx (ix3 j l 1) = BitVec.ofNat 32 (i j l).val) (hu : ∀ j l e, upd (ix3 j l e) = G j (i j l) e) (j : Fin 24) (n : Fin 2048) (e : Fin 64)
    [Decidable (∃ l, i j l = n)] :
    Host.scatter scatter_S24x2048x64_S24x64x2_S24x64x64_2_01_01_2 (fun _ b => b) x0 idx upd (ix3 j n e) = if ∃ l, i j l = n then G j n e else x0 (ix3 j n e) := by
  have key : ∀ k : S24x64x64.Idx, ScatterDims.resultIdx? scatter_S24x2048x64_S24x64x2_S24x64x64_2_01_01_2 k idx = some (ix3 j n e) →
      ∃ l : Fin 64, i j l = n ∧ k = ix3 j l e := fun k hk => by
    have ek : k = ix3 (k 0) (k 1) (k 2) := eq_ix3 k
    have hk' := (lands idx i h0 h1 (k 0) j (k 1) (k 2) e n).mp ((congrArg (fun t => ScatterDims.resultIdx? scatter_S24x2048x64_S24x64x2_S24x64x64_2_01_01_2 t idx) ek.symm).trans hk)
    obtain ⟨a, b, c⟩ := hk'
    refine ⟨k 1, by rw [← b, a], ?_⟩
    rw [ek]
    exact (congrArg₂ (fun x y => ix3 x (k 1) y) a c)
  by_cases h : ∃ l, i j l = n
  · rw [if_pos h]
    obtain ⟨l, rfl⟩ := h
    refine scatter_set_hit _ x0 idx upd _ _ (fun k hk => ?_) (ix3 j l e) ((lands idx i h0 h1 j j l e e _).mpr ⟨rfl, rfl, rfl⟩)
    obtain ⟨l', hl', rfl⟩ := key k hk
    rw [hu, hl']
  · rw [if_neg h]
    refine scatter_set_miss _ x0 idx upd _ fun k hk => h ?_
    obtain ⟨l', hl', _⟩ := key k hk
    exact ⟨l', hl'⟩

end Cert.RefValue

end
-- ==== Proof.RefParts2.lean ====
/- The reference's attention, read at an index. -/
module

public import proofs.«01_k».proof.Proof.RefParts

@[expose] public section

set_option maxRecDepth 16384

noncomputable section

namespace Cert.RefValue

open Cert.Spec Cert.ReferenceIdeal Cert.ReferenceIdeal.Gen
open Idealize.ShloMosaic Idealize.ShloMosaic.TcCoe Idealize.SL.Sem Idealize.ShloMosaic.Routing

/-- A word that is no negative number is not less than zero. -/
theorem not_neg (n : Fin 2048) : IntOp.cmpi .slt (BitVec.ofNat 32 n.val) 0#32 = 0#1 := by
  have : ¬ (BitVec.ofNat 32 n.val).toInt < (0#32 : BitVec 32).toInt := by
    rw [toInt_row]
    have : (0#32 : BitVec 32).toInt = 0 := by decide
    omega
  show BitVec.ofBool (decide ((BitVec.ofNat 32 n.val).toInt < (0#32 : BitVec 32).toInt)) = 0#1
  rw [decide_eq_false this]; rfl

/-- A row number is at least zero and at most 2047. -/
theorem in_range (n : Fin 2048) : IntOp.andi (IntOp.cmpi .sge (BitVec.ofNat 32 n.val) 0#32) (IntOp.cmpi .sle (BitVec.ofNat 32 n.val) 2047#32) = 1#1 := by
  have z : (0#32 : BitVec 32).toInt = 0 := by decide
  have h1 : (0#32 : BitVec 32).toInt ≤ (BitVec.ofNat 32 n.val).toInt := by rw [toInt_row]; omega
  have h2 : (BitVec.ofNat 32 n.val).toInt ≤ (2047#32 : BitVec 32).toInt := by
    rw [toInt_row]
    have : (2047#32 : BitVec 32).toInt = 2047 := by decide
    omega
  have e1 : IntOp.cmpi .sge (BitVec.ofNat 32 n.val) 0#32 = 1#1 := by
    show BitVec.ofBool (decide ((0#32 : BitVec 32).toInt ≤ (BitVec.ofNat 32 n.val).toInt)) = 1#1
    rw [decide_eq_true h1]; rfl
  have e2 : IntOp.cmpi .sle (BitVec.ofNat 32 n.val) 2047#32 = 1#1 := by
    show BitVec.ofBool (decide ((BitVec.ofNat 32 n.val).toInt ≤ (2047#32 : BitVec 32).toInt)) = 1#1
    rw [decide_eq_true h2]; rfl
  rw [e1, e2]; rfl

/-- The chosen positions along a new last axis. -/
theorem tail_at (w : IVec S24x64 32) (j : Fin 24) (l : Fin 64) : broadcastInDim S24x64x1 ![0, 1] bcast_S24x64_S24x64x1_0_1 w (ix3 j l 0) = w (ix2 j l) := by
  pointwise

/-- Negative positions would count from the end; a row number stays. -/
theorem wrap_at (w : IVec S24x64x1 32) (j : Fin 24) (l : Fin 64) (n : Fin 2048) (h : w (ix3 j l 0) = BitVec.ofNat 32 n.val) :
    select (cmpi .slt w (broadcastInDim S24x64x1 ![] bcast_S_S24x64x1 (constantI S_ 32 0#32))) (addi w (broadcastInDim S24x64x1 ![] bcast_S_S24x64x1 (constantI S_ 32 2048#32))) w (ix3 j l 0)
      = BitVec.ofNat 32 n.val := by
  pointwise [h, not_neg]

/-- Every position is in range, so the gathered rows stay. -/
theorem mask_at (c : IVec S24x64x1 32) (g : FVec Ideal S24x64x64 .f32) (j : Fin 24) (l : Fin 64) (e : Fin 64) (n : Fin 2048) (h : c (ix3 j l 0) = BitVec.ofNat 32 n.val) :
    select (broadcastInDim S24x64x64 ![0, 1] bcast_S24x64_S24x64x64_0_1 (Host.reduce IntOp.andi (andi (cmpi .sge c (broadcastInDim S24x64x1 ![] bcast_S_S24x64x1 (constantI S_ 32 0#32))) (cmpi .sle c (broadcastInDim S24x64x1 ![0, 1, 2] bcast_S1x1x1_S24x64x1_0_1_2 (broadcastInDim S1x1x1 ![2] bcast_S1_S1x1x1_2 (constantI S1 32 2047#32))))) (constantI S_ 1 1#1) reducesTo_S24x64x1_S24x64_d2 h_S_)) g (broadcastInDim S24x64x64 ![] bcast_S_S24x64x64 (constant (F := Ideal) S_ .f32 0x7FC00000#32)) (ix3 j l e)
      = g (ix3 j l e) := by
  pointwise [h]
  have e : (Finset.univ : Finset (Fin 1)).fold IntOp.andi 1#1 (fun x =>
      IntOp.andi (IntOp.cmpi CmpIPredicate.sge (c (ix3 j l x)) 0#32) (IntOp.cmpi CmpIPredicate.sle (c (ix3 j l x)) 2047#32)) = 1#1 := by
    rw [Finset.univ_unique, Finset.fold_singleton]
    show IntOp.andi (IntOp.andi (IntOp.cmpi CmpIPredicate.sge (c (ix3 j l 0)) 0#32) (IntOp.cmpi CmpIPredicate.sle (c (ix3 j l 0)) 2047#32)) 1#1 = 1#1
    rw [h, in_range]; rfl
  refine (congrArg (fun b => Scalar.select b _ _) e).trans ?_
  rfl

/-- A chosen row's scores. -/
theorem logit_at (qs : FVec Ideal S24x64x64 .f32) (k : FVec Ideal S24x2048x64 .f32) (j : Fin 24) (l : Fin 64) (m : Fin 2048) :
    Host.divf (F := Ideal) (Host.dotGeneral (F := Ideal) dot_S24x64x64_S24x2048x64_S24x64x2048_2_2_1_1_0_0 none qs k) (broadcastInDim S24x64x2048 ![] bcast_S_S24x64x2048 (Host.sqrt (F := Ideal) (constant (F := Ideal) S_ .f32 0x42800000#32))) (ix3 j l m)
      = logit (fun d => qs (ix3 j l d)) (fun m d => k (ix3 j m d)) m := by
  pointwise
  exact div_sqrt _

/-- A chosen row's largest score. -/
theorem most_at (s : FVec Ideal S24x64x2048 .f32) (j : Fin 24) (l : Fin 64) :
    Host.reduce FloatOps.maximumf s (constant (F := Ideal) S_ .f32 0xFF800000#32) reducesTo_S24x64x2048_S24x64_d2 h_S_ (ix2 j l) = big fun m' : Fin 2048 => s (ix3 j l m') := by
  pointwise [minf]
  rfl

/-- A chosen row's weights. -/
theorem weight_at (s : FVec Ideal S24x64x2048 .f32) (M : FVec Ideal S24x64 .f32) (j : Fin 24) (l : Fin 64) (m : Fin 2048) :
    Host.exp (F := Ideal) (subf (F := Ideal) s (broadcastInDim S24x64x2048 ![0, 1, 2] bcast_S24x64x1_S24x64x2048_0_1_2 (broadcastInDim S24x64x1 ![0, 1] bcast_S24x64_S24x64x1_0_1 (maximumf (F := Ideal) (broadcastInDim S24x64 ![] bcast_S_S24x64 (constant (F := Ideal) S_ .f32 0xFF800000#32)) M)))) (ix3 j l m)
      = Ideal.exp (s (ix3 j l m) - M (ix2 j l)) := by
  pointwise [minf]
  exact congrArg (fun y => Ideal.exp (s (ix3 j l m) - y)) (max_eq_right bot_le)

/-- The weights over their sum. -/
theorem share_at (w : FVec Ideal S24x64x2048 .f32) (j : Fin 24) (l : Fin 64) (m : Fin 2048) :
    Host.divf (F := Ideal) w (broadcastInDim S24x64x2048 ![0, 1, 2] bcast_S24x64x1_S24x64x2048_0_1_2 (broadcastInDim S24x64x1 ![0, 1] bcast_S24x64_S24x64x1_0_1 (Host.reduceAdd (F := Ideal) w (constant (F := Ideal) S_ .f32 0x00000000#32) reducesTo_S24x64x2048_S24x64_d2 h_S_))) (ix3 j l m)
      = Ideal.div (w (ix3 j l m)) (∑ m' : Fin 2048, w (ix3 j l m')) := by
  pointwise

/-- The weighted values. -/
theorem mix_at (a : FVec Ideal S24x64x2048 .f32) (v : FVec Ideal S24x2048x64 .f32) (j : Fin 24) (l : Fin 64) (d : Fin 64) :
    Host.dotGeneral (F := Ideal) dot_S24x64x2048_S24x2048x64_S24x64x64_2_1_1_2_0_0 none a v (ix3 j l d) = ∑ m : Fin 2048, a (ix3 j l m) * v (ix3 j m d) := by
  pointwise

/-- The two columns of the scatter's positions: the head and the row. -/
theorem pair_at (a b : IVec S24x64x1 32) (j : Fin 24) (l : Fin 64) :
    concatenate S24x64x2 2 [⟨S24x64x1, a⟩, ⟨S24x64x1, b⟩] concatenates_S24x64x1_S24x64x1_S24x64x2_d2 (ix3 j l 0) = a (ix3 j l 0)
      ∧ concatenate S24x64x2 2 [⟨S24x64x1, a⟩, ⟨S24x64x1, b⟩] concatenates_S24x64x1_S24x64x1_S24x64x2_d2 (ix3 j l 1) = b (ix3 j l 0) := by
  constructor
  · pointwise
  · pointwise

/-- The heads' numbers along the chosen positions. -/
theorem heads_at (j : Fin 24) (l : Fin 64) : broadcastInDim S24x64x1 ![0, 1] bcast_S24x64_S24x64x1_0_1 (broadcastInDim S24x64 ![0, 1] bcast_S24x1_S24x64_0_1
    (select (cmpi .slt (broadcastInDim S24x1 ![0] bcast_S24_S24x1_0 (iotaInDim S24 32 0)) (broadcastInDim S24x1 ![] bcast_S_S24x1 (constantI S_ 32 0#32))) (addi (broadcastInDim S24x1 ![0] bcast_S24_S24x1_0 (iotaInDim S24 32 0)) (broadcastInDim S24x1 ![] bcast_S_S24x1 (constantI S_ 32 24#32))) (broadcastInDim S24x1 ![0] bcast_S24_S24x1_0 (iotaInDim S24 32 0)))) (ix3 j l 0)
      = BitVec.ofNat 32 j.val := by
  pointwise
  exact (congrArg (fun b => Scalar.select b _ _) (not_neg ⟨j.val, by omega⟩)).trans rfl

/-- The chosen positions, a negative one counted from the end, along a new last axis. -/
theorem rows_at (w : IVec S24x64 32) (j : Fin 24) (l : Fin 64) (n : Fin 2048) (h : w (ix2 j l) = BitVec.ofNat 32 n.val) :
    broadcastInDim S24x64x1 ![0, 1] bcast_S24x64_S24x64x1_0_1 (select (cmpi .slt w (broadcastInDim S24x64 ![] bcast_S_S24x64 (constantI S_ 32 0#32))) (addi w (broadcastInDim S24x64 ![] bcast_S_S24x64 (constantI S_ 32 2048#32))) w) (ix3 j l 0)
      = BitVec.ofNat 32 n.val := by
  pointwise [h, not_neg]

/-- The operand of the scatter is zero. -/
theorem zero_at (j : Fin 24) (n : Fin 2048) (d : Fin 64) : broadcastInDim S24x2048x64 ![] bcast_S_S24x2048x64 (constant (F := Ideal) S_ .f32 0x00000000#32) (ix3 j n d) = (0 : EReal) := by
  pointwise

end Cert.RefValue

end
-- ==== Proof.RefValue.lean ====
/- The reference's result is the layer of its arguments. -/
module

public import proofs.«01_k».proof.Proof.Gen.ReferenceIdeal.Run
public import proofs.«01_k».proof.Proof.RefParts2
public import proofs.«01_k».proof.Proof.Layer

@[expose] public section

set_option maxRecDepth 16384

noncomputable section

namespace Cert.RefValue

open Cert.Spec Cert.ReferenceIdeal Cert.ReferenceIdeal.Gen Cert.ReferenceIdeal.Value
open Idealize.ShloMosaic Idealize.ShloMosaic.TcCoe Idealize.SL.Sem Idealize.ShloMosaic.Routing

/-- The heads' queries. -/
theorem head_at (x : FVec Ideal S2x2048x768 .f32) (w : FVec Ideal S768x768 .f32) (b : FVec Ideal S768 .f32) (j : Fin 24) (n : Fin 2048) (d : Fin 64) :
    shapeCast S24x2048x64 (shapeCast S2x2048x12x64 (addf (F := Ideal) (Host.dotGeneral (F := Ideal) (φ₁ := .f32) (φ₂ := .f32) dot_S2x2048x768_S768x768_S2x2048x768_2_0_01_1_n_n none x w) (broadcastInDim S2x2048x768 ![0, 1, 2] bcast_S1x1x768_S2x2048x768_0_1_2 (broadcastInDim S1x1x768 ![2] bcast_S768_S1x1x768_2 b))) shapeCasts_S2x2048x768_S2x2048x12x64) shapeCasts_S2x2048x12x64_S24x2048x64 (ix3 j n d)
      = proj (flatIn x) (mat w) (vec b) j n d :=
  (split_at _ j n d).trans (lin_at x w b _ _ _)

variable (V0 : Valuation τ sig (Elt Ideal))

/-- The reference's queries at an index. -/
theorem q_at (j : Fin 24) (n : Fin 2048) (d : Fin 64) : res_main_v13 (F := Ideal) V0 (ix3 j n d)
    = proj (flatIn (V0 (Proc.devRef .tc main_arg0))) (mat (V0 (Proc.devRef .tc main_arg1))) (vec (V0 (Proc.devRef .tc main_arg2))) j n d := by
  unfold res_main_v13
  exact head_at _ _ _ j n d

/-- The reference's keys at an index. -/
theorem k_at (j : Fin 24) (n : Fin 2048) (d : Fin 64) : res_main_v15 (F := Ideal) V0 (ix3 j n d)
    = proj (flatIn (V0 (Proc.devRef .tc main_arg0))) (mat (V0 (Proc.devRef .tc main_arg3))) (vec (V0 (Proc.devRef .tc main_arg4))) j n d := by
  unfold res_main_v15
  exact head_at _ _ _ j n d

/-- The largest scores of the reference. -/
theorem v35_at (j : Fin 24) (n : Fin 2048) : res_main_v35 (F := Ideal) V0 (ix2 j n)
    = score (fun n d => res_main_v13 (F := Ideal) V0 (ix3 j n d)) (fun n d => res_main_v15 (F := Ideal) V0 (ix3 j n d)) n := by
  unfold res_main_v35
  refine (score_at _ _ j n).trans ?_
  exact congrArg big (funext fun m => Finset.sum_congr rfl fun d _ => congrArg₂ (· * ·) (unit_at _ j n d) (unit_at _ j m d))

/-- The chosen rows of the reference. -/
theorem v38_at : ∃ i : Fin 24 → Fin 64 → Fin 2048,
    (∀ j, Top (score (fun n d => res_main_v13 (F := Ideal) V0 (ix3 j n d)) (fun n d => res_main_v15 (F := Ideal) V0 (ix3 j n d))) (i j))
      ∧ ∀ j l, res_main_v38 (F := Ideal) V0 (ix2 j l) = BitVec.ofNat 32 (i j l).val := by
  have h := fun j => chosen_at (res_main_v35 (F := Ideal) V0) j
  choose i hi hl using h
  refine ⟨i, fun j => ?_, fun j l => ?_⟩
  · have e : (fun n => res_main_v35 (F := Ideal) V0 (ix2 j n)) = score (fun n d => res_main_v13 (F := Ideal) V0 (ix3 j n d)) (fun n d => res_main_v15 (F := Ideal) V0 (ix3 j n d)) :=
      funext fun n => v35_at V0 j n
    exact e ▸ hi j
  · unfold res_main_v38
    exact hl j l

/-- The gathered rows' scores. -/
theorem v44_at (i : Fin 24 → Fin 64 → Fin 2048) (hi : ∀ j l, res_main_v38 (F := Ideal) V0 (ix2 j l) = BitVec.ofNat 32 (i j l).val)
    (j : Fin 24) (l : Fin 64) (m : Fin 2048) : res_main_v44 (F := Ideal) V0 (ix3 j l m)
    = logit (fun d => res_main_v13 (F := Ideal) V0 (ix3 j (i j l) d)) (fun m d => res_main_v15 (F := Ideal) V0 (ix3 j m d)) m := by
  have h39 : res_main_v39 (F := Ideal) V0 (ix3 j l 0) = BitVec.ofNat 32 (i j l).val := by
    unfold res_main_v39; exact (tail_at _ j l).trans (hi j l)
  have h1 : res_main_call1_v4 (F := Ideal) V0 (ix3 j l 0) = BitVec.ofNat 32 (i j l).val := by
    unfold res_main_call1_v4; exact wrap_at _ j l _ h39
  unfold res_main_v44
  refine (logit_at _ _ j l m).trans ?_
  exact congrArg (fun q => logit q (fun m d => res_main_v15 (F := Ideal) V0 (ix3 j m d)) m) (funext fun d =>
    (mask_at _ _ j l d _ h1).trans (gather_at _ _ j l d _ h1))

/-- Their weights. -/
theorem v51_at (i : Fin 24 → Fin 64 → Fin 2048) (hi : ∀ j l, res_main_v38 (F := Ideal) V0 (ix2 j l) = BitVec.ofNat 32 (i j l).val)
    (j : Fin 24) (l : Fin 64) (m : Fin 2048) : res_main_v51 (F := Ideal) V0 (ix3 j l m)
    = weight (fun d => res_main_v13 (F := Ideal) V0 (ix3 j (i j l) d)) (fun m d => res_main_v15 (F := Ideal) V0 (ix3 j m d)) m := by
  unfold res_main_v51
  refine (weight_at _ _ j l m).trans ?_
  have e : (fun m' => res_main_v44 (F := Ideal) V0 (ix3 j l m')) = logit (fun d => res_main_v13 (F := Ideal) V0 (ix3 j (i j l) d)) (fun m d => res_main_v15 (F := Ideal) V0 (ix3 j m d)) :=
    funext fun m' => v44_at V0 i hi j l m'
  exact congrArg₂ (fun a b => Ideal.exp (a - b)) (v44_at V0 i hi j l m) ((most_at _ j l).trans (congrArg big e))

/-- Their attention over values `v`. -/
theorem att_at (v : FVec Ideal S24x2048x64 .f32) (i : Fin 24 → Fin 64 → Fin 2048) (hi : ∀ j l, res_main_v38 (F := Ideal) V0 (ix2 j l) = BitVec.ofNat 32 (i j l).val)
    (j : Fin 24) (l : Fin 64) (d : Fin 64) :
    Host.dotGeneral (F := Ideal) dot_S24x64x2048_S24x2048x64_S24x64x64_2_1_1_2_0_0 none (Host.divf (F := Ideal) (res_main_v51 (F := Ideal) V0) (broadcastInDim S24x64x2048 ![0, 1, 2] bcast_S24x64x1_S24x64x2048_0_1_2 (broadcastInDim S24x64x1 ![0, 1] bcast_S24x64_S24x64x1_0_1 (Host.reduceAdd (F := Ideal) (res_main_v51 (F := Ideal) V0) (constant (F := Ideal) S_ .f32 0x00000000#32) reducesTo_S24x64x2048_S24x64_d2 h_S_)))) v (ix3 j l d)
      = att (fun d => res_main_v13 (F := Ideal) V0 (ix3 j (i j l) d)) (fun m d => res_main_v15 (F := Ideal) V0 (ix3 j m d)) (fun m d => v (ix3 j m d)) d := by
  refine (mix_at _ v j l d).trans (Finset.sum_congr rfl fun m _ => congrArg (· * v (ix3 j m d)) ?_)
  refine (share_at _ j l m).trans (congrArg₂ Ideal.div (v51_at V0 i hi j l m) (Finset.sum_congr rfl fun m' _ => v51_at V0 i hi j l m'))

/-- The rows put back: the heads' outputs. -/
theorem heads_out (v : FVec Ideal S24x2048x64 .f32) (j : Fin 24) (n : Fin 2048) (d : Fin 64) :
    Host.scatter scatter_S24x2048x64_S24x64x2_S24x64x64_2_01_01_2 (fun _ b => b) (broadcastInDim S24x2048x64 ![] bcast_S_S24x2048x64 (constant (F := Ideal) S_ .f32 0x00000000#32)) (concatenate S24x64x2 2 [⟨S24x64x1, (broadcastInDim S24x64x1 ![0, 1] bcast_S24x64_S24x64x1_0_1 (broadcastInDim S24x64 ![0, 1] bcast_S24x1_S24x64_0_1 (select (cmpi .slt (res_main_v58 (F := Ideal) V0) (broadcastInDim S24x1 ![] bcast_S_S24x1 (constantI S_ 32 0#32))) (addi (res_main_v58 (F := Ideal) V0) (broadcastInDim S24x1 ![] bcast_S_S24x1 (constantI S_ 32 24#32))) (res_main_v58 (F := Ideal) V0))))⟩, ⟨S24x64x1, (broadcastInDim S24x64x1 ![0, 1] bcast_S24x64_S24x64x1_0_1 (select (cmpi .slt (res_main_v38 (F := Ideal) V0) (broadcastInDim S24x64 ![] bcast_S_S24x64 (constantI S_ 32 0#32))) (addi (res_main_v38 (F := Ideal) V0) (broadcastInDim S24x64 ![] bcast_S_S24x64 (constantI S_ 32 2048#32))) (res_main_v38 (F := Ideal) V0)))⟩] concatenates_S24x64x1_S24x64x1_S24x64x2_d2) (Host.dotGeneral (F := Ideal) dot_S24x64x2048_S24x2048x64_S24x64x64_2_1_1_2_0_0 none (Host.divf (F := Ideal) (res_main_v51 (F := Ideal) V0) (broadcastInDim S24x64x2048 ![0, 1, 2] bcast_S24x64x1_S24x64x2048_0_1_2 (broadcastInDim S24x64x1 ![0, 1] bcast_S24x64_S24x64x1_0_1 (Host.reduceAdd (F := Ideal) (res_main_v51 (F := Ideal) V0) (constant (F := Ideal) S_ .f32 0x00000000#32) reducesTo_S24x64x2048_S24x64_d2 h_S_)))) v) (ix3 j n d)
      = out (fun n d => res_main_v13 (F := Ideal) V0 (ix3 j n d)) (fun n d => res_main_v15 (F := Ideal) V0 (ix3 j n d)) (fun n d => v (ix3 j n d)) n d := by
  classical
  obtain ⟨i, ht, hi⟩ := v38_at V0
  refine (scatter_at _ _ _ i (fun j n d => att (fun d => res_main_v13 (F := Ideal) V0 (ix3 j n d)) (fun m d => res_main_v15 (F := Ideal) V0 (ix3 j m d)) (fun m d => v (ix3 j m d)) d)
    (fun j l => (pair_at _ _ j l).1.trans (heads_at j l)) (fun j l => (pair_at _ _ j l).2.trans (rows_at _ j l _ (hi j l))) (fun j l e => att_at V0 v i hi j l e) j n d).trans ?_
  unfold out
  exact if_congr ((ht j).chosen_iff n).symm rfl (zero_at j n d)

/-- The reference's result is the layer. -/
theorem result_at (u : Fin 2) (t : Fin 2048) (c : Fin 768) :
    (addf (F := Ideal) (Host.dotGeneral (F := Ideal) (φ₁ := .f32) (φ₂ := .f32) dot_S2x2048x768_S768x768_S2x2048x768_2_0_01_1_n_n none (shapeCast S2x2048x768 (Host.scatter scatter_S24x2048x64_S24x64x2_S24x64x64_2_01_01_2 (fun _ b => b) (broadcastInDim S24x2048x64 ![] bcast_S_S24x2048x64 (constant (F := Ideal) S_ .f32 0x00000000#32)) (concatenate S24x64x2 2 [⟨S24x64x1, (broadcastInDim S24x64x1 ![0, 1] bcast_S24x64_S24x64x1_0_1 (broadcastInDim S24x64 ![0, 1] bcast_S24x1_S24x64_0_1 (select (cmpi .slt (res_main_v58 (F := Ideal) V0) (broadcastInDim S24x1 ![] bcast_S_S24x1 (constantI S_ 32 0#32))) (addi (res_main_v58 (F := Ideal) V0) (broadcastInDim S24x1 ![] bcast_S_S24x1 (constantI S_ 32 24#32))) (res_main_v58 (F := Ideal) V0))))⟩, ⟨S24x64x1, (broadcastInDim S24x64x1 ![0, 1] bcast_S24x64_S24x64x1_0_1 (select (cmpi .slt (res_main_v38 (F := Ideal) V0) (broadcastInDim S24x64 ![] bcast_S_S24x64 (constantI S_ 32 0#32))) (addi (res_main_v38 (F := Ideal) V0) (broadcastInDim S24x64 ![] bcast_S_S24x64 (constantI S_ 32 2048#32))) (res_main_v38 (F := Ideal) V0)))⟩] concatenates_S24x64x1_S24x64x1_S24x64x2_d2) (Host.dotGeneral (F := Ideal) dot_S24x64x2048_S24x2048x64_S24x64x64_2_1_1_2_0_0 none (Host.divf (F := Ideal) (res_main_v51 (F := Ideal) V0) (broadcastInDim S24x64x2048 ![0, 1, 2] bcast_S24x64x1_S24x64x2048_0_1_2 (broadcastInDim S24x64x1 ![0, 1] bcast_S24x64_S24x64x1_0_1 (Host.reduceAdd (F := Ideal) (res_main_v51 (F := Ideal) V0) (constant (F := Ideal) S_ .f32 0x00000000#32) reducesTo_S24x64x2048_S24x64_d2 h_S_)))) (shapeCast S24x2048x64 (shapeCast S2x2048x12x64 (addf (F := Ideal) (Host.dotGeneral (F := Ideal) (φ₁ := .f32) (φ₂ := .f32) dot_S2x2048x768_S768x768_S2x2048x768_2_0_01_1_n_n none (V0 (Proc.devRef .tc main_arg0)) (V0 (Proc.devRef .tc main_arg5))) (broadcastInDim S2x2048x768 ![0, 1, 2] bcast_S1x1x768_S2x2048x768_0_1_2 (broadcastInDim S1x1x768 ![2] bcast_S768_S1x1x768_2 (V0 (Proc.devRef .tc main_arg6))))) shapeCasts_S2x2048x768_S2x2048x12x64) shapeCasts_S2x2048x12x64_S24x2048x64))) shapeCasts_S24x2048x64_S2x2048x768) (V0 (Proc.devRef .tc main_arg7))) (broadcastInDim S2x2048x768 ![0, 1, 2] bcast_S1x1x768_S2x2048x768_0_1_2 (broadcastInDim S1x1x768 ![2] bcast_S768_S1x1x768_2 (V0 (Proc.devRef .tc main_arg8)))) : FVec Ideal S2x2048x768 .f32) (ix3 u t c)
      = layer (flatIn (V0 (Proc.devRef .tc main_arg0))) (mat (V0 (Proc.devRef .tc main_arg1))) (vec (V0 (Proc.devRef .tc main_arg2))) (mat (V0 (Proc.devRef .tc main_arg3))) (vec (V0 (Proc.devRef .tc main_arg4)))
          (mat (V0 (Proc.devRef .tc main_arg5))) (vec (V0 (Proc.devRef .tc main_arg6))) (mat (V0 (Proc.devRef .tc main_arg7))) (vec (V0 (Proc.devRef .tc main_arg8))) ⟨2048 * u.val + t.val, by omega⟩ c := by
  refine (lin_at _ _ _ u t c).trans ?_
  unfold layer last
  refine congrArg₂ (· + ·) (Finset.sum_congr rfl fun e _ => congrArg₂ (· * ·) ?_ rfl) rfl
  refine (join_at _ u t e).trans ((heads_out V0 _ _ _ _).trans ?_)
  unfold flat
  have eq : ∀ j, (fun n d => res_main_v13 (F := Ideal) V0 (ix3 j n d)) = proj (flatIn (V0 (Proc.devRef .tc main_arg0))) (mat (V0 (Proc.devRef .tc main_arg1))) (vec (V0 (Proc.devRef .tc main_arg2))) j :=
    fun j => funext fun n => funext fun d => q_at V0 j n d
  have ek : ∀ j, (fun n d => res_main_v15 (F := Ideal) V0 (ix3 j n d)) = proj (flatIn (V0 (Proc.devRef .tc main_arg0))) (mat (V0 (Proc.devRef .tc main_arg3))) (vec (V0 (Proc.devRef .tc main_arg4))) j :=
    fun j => funext fun n => funext fun d => k_at V0 j n d
  have ev : ∀ j, (fun (n : Fin 2048) (d : Fin 64) => _) = proj (flatIn (V0 (Proc.devRef .tc main_arg0))) (mat (V0 (Proc.devRef .tc main_arg5))) (vec (V0 (Proc.devRef .tc main_arg6))) j :=
    fun j => funext fun n => funext fun d => head_at (V0 (Proc.devRef .tc main_arg0)) (V0 (Proc.devRef .tc main_arg5)) (V0 (Proc.devRef .tc main_arg6)) j n d
  rw [eq, ek]
  exact congrArg (fun v => out _ _ v _ _) (ev _)

end Cert.RefValue

end
-- ==== Proof.Algebraic.lean ====
/- The kernel's idealization and the reference end with the same result: both are the layer of the arguments. -/
module

public import proofs.«01_k».proof.Defs
public import proofs.«01_k».proof.Proof.Gen.KernelIdeal
public import proofs.«01_k».proof.Proof.Gen.ReferenceIdeal
public import proofs.«01_k».proof.Proof.ArraysB
public import proofs.«01_k».proof.Proof.RefValue

@[expose] public section

set_option maxRecDepth 16384

noncomputable section

namespace Cert.Proof

open Idealize.ShloMosaic Idealize.ShloMosaic.TcCoe Idealize.SL.Sem
open Cert.Spec

set_option maxHeartbeats 1600000 in
/-- From memories that agree on the arguments, the idealized kernel and the reference both end with the layer of those arguments, the arguments unchanged. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Run.W4 m g c (Proc.devRef .tc Cert.KernelIdeal.main_v7), ?_, ?_⟩
  · refine (θ_run Cert.KernelIdeal.defs _ _).mono (fun r h c => ?_) (Cert.KernelIdeal.Run.run_end (F := Ideal) m g)
    obtain ⟨h0, h1, h2, h3, h4, h5, h6, h7, h8, h9⟩ := h.1 c
    exact ⟨h9, h0, h1, h2, h3, h4, h5, h6, h7, h8⟩
  · refine (θ_run Cert.ReferenceIdeal.defs _ _).mono (fun r h c => ⟨(h c).1.trans ?_, (h c).2⟩) (Cert.ReferenceIdeal.Value.run (F := Ideal) m' g')
    obtain ⟨a0, a1, a2, a3, a4, a5, a6, a7, a8⟩ := hagree c
    funext j
    obtain ⟨u, t, k, rfl⟩ : ∃ (u : Fin 2) (t : Fin 2048) (k : Fin 768), j = ix3 u t k := ⟨j 0, j 1, j 2, eq_ix3 j⟩
    refine (Cert.RefValue.result_at (StableHlo.launchContents m' c) u t k).trans (Eq.trans ?_ (Cert.KernelIdeal.Value.result_layer m g c u t k).symm)
    unfold Cert.KernelIdeal.Value.layerOf
    rw [← a0, ← a1, ← a2, ← a3, ← a4, ← a5, ← a6, ← a7, ← a8]

end Cert.Proof

end
-- ==== Proof.lean ====
/- The claims about the kernel, its idealization and the reference, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Algebraic
public import Idealize.ShloMosaic.Adequacy
public import Idealize.ShloMosaic.Init

@[expose] public section

noncomputable section

namespace Cert.Proof

open Idealize.ShloMosaic Idealize.SL.Sem

/-- The kernel's run at the machine's values ends with its arguments unchanged and every counter at zero. -/
theorem frame_kernel : Cert.quiescent_Kernel (hKernel := Cert.Kernel.Gen.facts) := fun m g _ => Cert.Kernel.Run.frame m g

/-- So does the run of its idealization. -/
theorem frame_ideal : Cert.quiescent_KernelIdeal (hKernelIdeal := Cert.KernelIdeal.Gen.facts) := fun m g _ => Cert.KernelIdeal.Run.frame m g

/-- And the reference's; it has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The whole claim. -/
theorem claim : Cert.Claim := ⟨Cert.Kernel.Gen.facts, Cert.KernelIdeal.Gen.facts, Cert.ReferenceIdeal.Gen.facts,
  frame_kernel, frame_ideal, frame_reference, trivial, algebraic⟩

end Cert.Proof

end
